-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_rising [hPre_finite_and_rising : Cert.Pre_finite_and_rising.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_rising.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_rising [hPre_finite_and_rising : Cert.Pre_finite_and_rising.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_rising.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_and_rising [hKernelIdeal : Cert.KernelIdeal.Facts] [hPre_finite_and_rising : Cert.Pre_finite_and_rising.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_rising m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_and_rising [hReferenceIdeal : Cert.ReferenceIdeal.Facts] [hPre_finite_and_rising : Cert.Pre_finite_and_rising.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_rising m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_finite_and_rising [hKernelIdeal : Cert.KernelIdeal.Facts] [hReferenceIdeal : Cert.ReferenceIdeal.Facts] [hPre_finite_and_rising : Cert.Pre_finite_and_rising.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_rising m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_and_rising : Cert.Pre_finite_and_rising.Facts),
    quiescent_Kernel (hKernel := hKernel)
    ∧ quiescent_KernelIdeal (hKernelIdeal := hKernelIdeal)
    ∧ quiescent_KernelIdeal_pre_finite_and_rising (hKernelIdeal := hKernelIdeal) (hPre_finite_and_rising := hPre_finite_and_rising)
    ∧ quiescent_ReferenceIdeal (hReferenceIdeal := hReferenceIdeal)
    ∧ quiescent_ReferenceIdeal_pre_finite_and_rising (hReferenceIdeal := hReferenceIdeal) (hPre_finite_and_rising := hPre_finite_and_rising)
    ∧ preserves_Kernel_KernelIdeal
    ∧ algebraic_KernelIdeal_ReferenceIdeal_pre_finite_and_rising (hKernelIdeal := hKernelIdeal) (hReferenceIdeal := hReferenceIdeal) (hPre_finite_and_rising := hPre_finite_and_rising)
-- ==== Pre_finite_and_rising.lean ====
abbrev S8x3x2048 : Shape := ⟨3, ![8, 3, 2048]⟩
abbrev S8x256x2048 : Shape := ⟨3, ![8, 256, 2048]⟩
abbrev S256x259 : Shape := ⟨2, ![256, 259]⟩
abbrev S256 : Shape := ⟨1, ![256]⟩
abbrev S512x256 : Shape := ⟨2, ![512, 256]⟩
abbrev S512 : Shape := ⟨1, ![512]⟩
abbrev S1024x512 : Shape := ⟨2, ![1024, 512]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S8x3x2048 : S_.BroadcastsInDim S8x3x2048 (![] : Fin 0 → Fin S8x3x2048.rank)
  reducesTo_S8x3x2048_S_d0_1_2 : S8x3x2048.ReducesTo [0, 1, 2] S_
  bcast_S_S8x256x2048 : S_.BroadcastsInDim S8x256x2048 (![] : Fin 0 → Fin S8x256x2048.rank)
  reducesTo_S8x256x2048_S_d0_1_2 : S8x256x2048.ReducesTo [0, 1, 2] S_
  bcast_S_S256x259 : S_.BroadcastsInDim S256x259 (![] : Fin 0 → Fin S256x259.rank)
  reducesTo_S256x259_S_d0_1 : S256x259.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_

variable [Facts]

def fn_part3 {F : FTy → Type} [FloatOps F] (main_arg10 : FVec F S1024x512 .f32) (main_arg11 : FVec F S1024 .f32) (main_arg12 : FVec F S1024 .f32) (main_v47 : IVec S_ 1) (main_v50 : IVec S512 1) : IVec S_ 1 :=
  let main_c_19 : IVec S_ 1 := constantI S_ 1 1#1
  let main_v51 : IVec S_ 1 := (fun x v => Host.reduce IntOp.andi x v reducesTo_S512_S_d0 h_S_) main_v50 main_c_19
  let main_v52 : IVec S_ 1 := andi main_v47 main_v51
  let main_v53 : FVec F S1024x512 .f32 := Host.absf main_arg10
  let main_cst_20 : FVec F S_ .f32 := constant S_ .f32 0x7F800000#32
  let main_v54 : FVec F S1024x512 .f32 := broadcastInDim S1024x512 ![] bcast_S_S1024x512 main_cst_20
  let main_v55 : IVec S1024x512 1 := cmpf .olt main_v53 main_v54
  let main_c_21 : IVec S_ 1 := constantI S_ 1 1#1
  let main_v56 : IVec S_ 1 := (fun x v => Host.reduce IntOp.andi x v reducesTo_S1024x512_S_d0_1 h_S_) main_v55 main_c_21
  let main_v57 : IVec S_ 1 := andi main_v52 main_v56
  let main_v58 : FVec F S1024 .f32 := Host.absf main_arg11
  let main_cst_22 : FVec F S_ .f32 := constant S_ .f32 0x7F800000#32
  let main_v59 : FVec F S1024 .f32 := broadcastInDim S1024 ![] bcast_S_S1024 main_cst_22
  let main_v60 : IVec S1024 1 := cmpf .olt main_v58 main_v59
  let main_c_23 : IVec S_ 1 := constantI S_ 1 1#1
  let main_v61 : IVec S_ 1 := (fun x v => Host.reduce IntOp.andi x v reducesTo_S1024_S_d0 h_S_) main_v60 main_c_23
  let main_v62 : IVec S_ 1 := andi main_v57 main_v61
  let main_v63 : FVec F S1024 .f32 := Host.absf main_arg12
  let main_cst_24 : FVec F S_ .f32 := constant S_ .f32 0x7F800000#32
  let main_v64 : FVec F S1024 .f32 := broadcastInDim S1024 ![] bcast_S_S1024 main_cst_24
  let main_v65 : IVec S1024 1 := cmpf .olt main_v63 main_v64
  let main_c_25 : IVec S_ 1 := constantI S_ 1 1#1
  let main_v66 : IVec S_ 1 := (fun x v => Host.reduce IntOp.andi x v reducesTo_S1024_S_d0 h_S_) main_v65 main_c_25
  let main_v67 : IVec S_ 1 := andi main_v62 main_v66
  main_v67

def fn_part2 {F : FTy → Type} [FloatOps F] (main_arg7 : FVec F S512 .f32) (main_arg8 : FVec F S512 .f32) (main_arg9 : FVec F S512 .f32) (main_arg10 : FVec F S1024x512 .f32) (main_arg11 : FVec F S1024 .f32) (main_arg12 : FVec F S1024 .f32) (main_v32 : IVec S_ 1) (main_v33 : FVec F S512x256 .f32) : IVec S_ 1 :=
  let main_cst_12 : FVec F S_ .f32 := constant S_ .f32 0x7F800000#32
  let main_v34 : FVec F S512x256 .f32 := broadcastInDim S512x256 ![] bcast_S_S512x256 main_cst_12
  let main_v35 : IVec S512x256 1 := cmpf .olt main_v33 main_v34
  let main_c_13 : IVec S_ 1 := constantI S_ 1 1#1
  let main_v36 : IVec S_ 1 := (fun x v => Host.reduce IntOp.andi x v reducesTo_S512x256_S_d0_1 h_S_) main_v35 main_c_13
  let main_v37 : IVec S_ 1 := andi main_v32 main_v36
  let main_v38 : FVec F S512 .f32 := Host.absf main_arg7
  let main_cst_14 : FVec F S_ .f32 := constant S_ .f32 0x7F800000#32
  let main_v39 : FVec F S512 .f32 := broadcastInDim S512 ![] bcast_S_S512 main_cst_14
  let main_v40 : IVec S512 1 := cmpf .olt main_v38 main_v39
  let main_c_15 : IVec S_ 1 := constantI S_ 1 1#1
  let main_v41 : IVec S_ 1 := (fun x v => Host.reduce IntOp.andi x v reducesTo_S512_S_d0 h_S_) main_v40 main_c_15
  let main_v42 : IVec S_ 1 := andi main_v37 main_v41
  let main_v43 : FVec F S512 .f32 := Host.absf main_arg8
  let main_cst_16 : FVec F S_ .f32 := constant S_ .f32 0x7F800000#32
  let main_v44 : FVec F S512 .f32 := broadcastInDim S512 ![] bcast_S_S512 main_cst_16
  let main_v45 : IVec S512 1 := cmpf .olt main_v43 main_v44
  let main_c_17 : IVec S_ 1 := constantI S_ 1 1#1
  let main_v46 : IVec S_ 1 := (fun x v => Host.reduce IntOp.andi x v reducesTo_S512_S_d0 h_S_) main_v45 main_c_17
  let main_v47 : IVec S_ 1 := andi main_v42 main_v46
  let main_v48 : FVec F S512 .f32 := Host.absf main_arg9
  let main_cst_18 : FVec F S_ .f32 := constant S_ .f32 0x7F800000#32
  let main_v49 : FVec F S512 .f32 := broadcastInDim S512 ![] bcast_S_S512 main_cst_18
  let main_v50 : IVec S512 1 := cmpf .olt main_v48 main_v49
  fn_part3 (F := F) main_arg10 main_arg11 main_arg12 main_v47 main_v50

def fn_part1 {F : FTy → Type} [FloatOps F] (main_arg3 : FVec F S256 .f32) (main_arg4 : FVec F S256 .f32) (main_arg5 : FVec F S256 .f32) (main_arg6 : FVec F S512x256 .f32) (main_arg7 : FVec F S512 .f32) (main_arg8 : FVec F S512 .f32) (main_arg9 : FVec F S512 .f32) (main_arg10 : FVec F S1024x512 .f32) (main_arg11 : FVec F S1024 .f32) (main_arg12 : FVec F S1024 .f32) (main_v12 : IVec S_ 1) (main_v15 : IVec S256x259 1) (main_c_5 : IVec S_ 1) : IVec S_ 1 :=
  let main_v16 : IVec S_ 1 := (fun x v => Host.reduce IntOp.andi x v reducesTo_S256x259_S_d0_1 h_S_) main_v15 main_c_5
  let main_v17 : IVec S_ 1 := andi main_v12 main_v16
  let main_v18 : FVec F S256 .f32 := Host.absf main_arg3
  let main_cst_6 : FVec F S_ .f32 := constant S_ .f32 0x7F800000#32
  let main_v19 : FVec F S256 .f32 := broadcastInDim S256 ![] bcast_S_S256 main_cst_6
  let main_v20 : IVec S256 1 := cmpf .olt main_v18 main_v19
  let main_c_7 : IVec S_ 1 := constantI S_ 1 1#1
  let main_v21 : IVec S_ 1 := (fun x v => Host.reduce IntOp.andi x v reducesTo_S256_S_d0 h_S_) main_v20 main_c_7
  let main_v22 : IVec S_ 1 := andi main_v17 main_v21
  let main_v23 : FVec F S256 .f32 := Host.absf main_arg4
  let main_cst_8 : FVec F S_ .f32 := constant S_ .f32 0x7F800000#32
  let main_v24 : FVec F S256 .f32 := broadcastInDim S256 ![] bcast_S_S256 main_cst_8
  let main_v25 : IVec S256 1 := cmpf .olt main_v23 main_v24
  let main_c_9 : IVec S_ 1 := constantI S_ 1 1#1
  let main_v26 : IVec S_ 1 := (fun x v => Host.reduce IntOp.andi x v reducesTo_S256_S_d0 h_S_) main_v25 main_c_9
  let main_v27 : IVec S_ 1 := andi main_v22 main_v26
  let main_v28 : FVec F S256 .f32 := Host.absf main_arg5
  let main_cst_10 : FVec F S_ .f32 := constant S_ .f32 0x7F800000#32
  let main_v29 : FVec F S256 .f32 := broadcastInDim S256 ![] bcast_S_S256 main_cst_10
  let main_v30 : IVec S256 1 := cmpf .olt main_v28 main_v29
  let main_c_11 : IVec S_ 1 := constantI S_ 1 1#1
  let main_v31 : IVec S_ 1 := (fun x v => Host.reduce IntOp.andi x v reducesTo_S256_S_d0 h_S_) main_v30 main_c_11
  let main_v32 : IVec S_ 1 := andi main_v27 main_v31
  let main_v33 : FVec F S512x256 .f32 := Host.absf main_arg6
  fn_part2 (F := F) main_arg7 main_arg8 main_arg9 main_arg10 main_arg11 main_arg12 main_v32 main_v33

def fn {F : FTy → Type} [FloatOps F] (main_arg0 : FVec F S8x3x2048 .f32) (main_arg1 : FVec F S8x256x2048 .f32) (main_arg2 : FVec F S256x259 .f32) (main_arg3 : FVec F S256 .f32) (main_arg4 : FVec F S256 .f32) (main_arg5 : FVec F S256 .f32) (main_arg6 : FVec F S512x256 .f32) (main_arg7 : FVec F S512 .f32) (main_arg8 : FVec F S512 .f32) (main_arg9 : FVec F S512 .f32) (main_arg10 : FVec F S1024x512 .f32) (main_arg11 : FVec F S1024 .f32) (main_arg12 : FVec F S1024 .f32) (main_arg13 : FVec F S1024 .f32) : IVec S_ 1 :=
  let main_cst : FVec F S_ .f32 := constant S_ .f32 0x00000000#32
  let main_v0 : FVec F S1024 .f32 := broadcastInDim S1024 ![] bcast_S_S1024 main_cst
  let main_v1 : IVec S1024 1 := cmpf .oge main_arg12 main_v0
  let main_c : IVec S_ 1 := constantI S_ 1 1#1
  let main_v2 : IVec S_ 1 := (fun x v => Host.reduce IntOp.andi x v reducesTo_S1024_S_d0 h_S_) main_v1 main_c
  let main_v3 : FVec F S8x3x2048 .f32 := Host.absf main_arg0
  let main_cst_0 : FVec F S_ .f32 := constant S_ .f32 0x7F800000#32
  let main_v4 : FVec F S8x3x2048 .f32 := broadcastInDim S8x3x2048 ![] bcast_S_S8x3x2048 main_cst_0
  let main_v5 : IVec S8x3x2048 1 := cmpf .olt main_v3 main_v4
  let main_c_1 : IVec S_ 1 := constantI S_ 1 1#1
  let main_v6 : IVec S_ 1 := (fun x v => Host.reduce IntOp.andi x v reducesTo_S8x3x2048_S_d0_1_2 h_S_) main_v5 main_c_1
  let main_v7 : IVec S_ 1 := andi main_v2 main_v6
  let main_v8 : FVec F S8x256x2048 .f32 := Host.absf main_arg1
  let main_cst_2 : FVec F S_ .f32 := constant S_ .f32 0x7F800000#32
  let main_v9 : FVec F S8x256x2048 .f32 := broadcastInDim S8x256x2048 ![] bcast_S_S8x256x2048 main_cst_2
  let main_v10 : IVec S8x256x2048 1 := cmpf .olt main_v8 main_v9
  let main_c_3 : IVec S_ 1 := constantI S_ 1 1#1
  let main_v11 : IVec S_ 1 := (fun x v => Host.reduce IntOp.andi x v reducesTo_S8x256x2048_S_d0_1_2 h_S_) main_v10 main_c_3
  let main_v12 : IVec S_ 1 := andi main_v7 main_v11
  let main_v13 : FVec F S256x259 .f32 := Host.absf main_arg2
  let main_cst_4 : FVec F S_ .f32 := constant S_ .f32 0x7F800000#32
  let main_v14 : FVec F S256x259 .f32 := broadcastInDim S256x259 ![] bcast_S_S256x259 main_cst_4
  let main_v15 : IVec S256x259 1 := cmpf .olt main_v13 main_v14
  let main_c_5 : IVec S_ 1 := constantI S_ 1 1#1
  fn_part1 (F := F) main_arg3 main_arg4 main_arg5 main_arg6 main_arg7 main_arg8 main_arg9 main_arg10 main_arg11 main_arg12 main_v12 main_v15 main_c_5
-- ==== Kernel.lean ====
abbrev S8x3x2048 : Shape := ⟨3, ![8, 3, 2048]⟩
abbrev S8x256x2048 : Shape := ⟨3, ![8, 256, 2048]⟩
abbrev S256x259 : Shape := ⟨2, ![256, 259]⟩
abbrev S256 : Shape := ⟨1, ![256]⟩
abbrev S512x256 : Shape := ⟨2, ![512, 256]⟩
abbrev S512 : Shape := ⟨1, ![512]⟩
abbrev S1024x512 : Shape := ⟨2, ![1024, 512]⟩
abbrev S1024 : Shape := ⟨1, ![1024]⟩
abbrev S3x8x2048 : Shape := ⟨3, ![3, 8, 2048]⟩
abbrev S3x32x512 : Shape := ⟨3, ![3, 32, 512]⟩
abbrev S32x3x512 : Shape := ⟨3, ![32, 3, 512]⟩
abbrev S256x3 : Shape := ⟨2, ![256, 3]⟩
abbrev S256x256 : Shape := ⟨2, ![256, 256]⟩
abbrev S256x1 : Shape := ⟨2, ![256, 1]⟩
abbrev S512x1 : Shape := ⟨2, ![512, 1]⟩
abbrev S1024x1 : Shape := ⟨2, ![1024, 1]⟩
abbrev S1024x8 : Shape := ⟨2, ![1024, 8]⟩
abbrev S32x256x512 : Shape := ⟨3, ![32, 256, 512]⟩
abbrev S32x512x512 : Shape := ⟨3, ![32, 512, 512]⟩
abbrev S256x128 : Shape := ⟨2, ![256, 128]⟩
abbrev S512x128 : Shape := ⟨2, ![512, 128]⟩
abbrev S1024x128 : Shape := ⟨2, ![1024, 128]⟩
abbrev S1x256x2048 : Shape := ⟨3, ![1, 256, 2048]⟩
abbrev S256x2048 : Shape := ⟨2, ![256, 2048]⟩
abbrev S256x512 : Shape := ⟨2, ![256, 512]⟩
abbrev S1x3x512 : Shape := ⟨3, ![1, 3, 512]⟩
abbrev S3x512 : Shape := ⟨2, ![3, 512]⟩
abbrev S1x256x512 : Shape := ⟨3, ![1, 256, 512]⟩
abbrev S512x512 : Shape := ⟨2, ![512, 512]⟩
abbrev S1x512x512 : Shape := ⟨3, ![1, 512, 512]⟩
abbrev S8x1024 : Shape := ⟨2, ![8, 1024]⟩
abbrev S8x1024x1 : Shape := ⟨3, ![8, 1024, 1]⟩
abbrev S_ : Shape := ⟨0, ![]⟩
abbrev S8x3x1 : Shape := ⟨3, ![8, 3, 1]⟩

abbrev nBuf : Space → Nat
  | .hbm => 36
  | .vmem => 27
  | .smem => 0
  | _ => 0

abbrev bufTy : (tb : Table) → Fin (tcTables nBuf tb) → BufTy
  | .hbm, ⟨0, _⟩ => ⟨S8x3x2048, .f32⟩
  | .hbm, ⟨1, _⟩ => ⟨S8x256x2048, .f32⟩
  | .hbm, ⟨2, _⟩ => ⟨S256x259, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S512x256, .f32⟩
  | .hbm, ⟨7, _⟩ => ⟨S512, .f32⟩
  | .hbm, ⟨8, _⟩ => ⟨S512, .f32⟩
  | .hbm, ⟨9, _⟩ => ⟨S512, .f32⟩
  | .hbm, ⟨10, _⟩ => ⟨S1024x512, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S3x8x2048, .f32⟩
  | .hbm, ⟨15, _⟩ => ⟨S3x32x512, .f32⟩
  | .hbm, ⟨16, _⟩ => ⟨S32x3x512, .f32⟩
  | .hbm, ⟨17, _⟩ => ⟨S32x3x512, .bf16⟩
  | .hbm, ⟨18, _⟩ => ⟨S8x256x2048, .bf16⟩
  | .hbm, ⟨19, _⟩ => ⟨S256x3, .f32⟩
  | .hbm, ⟨20, _⟩ => ⟨S256x3, .bf16⟩
  | .hbm, ⟨21, _⟩ => ⟨S256x256, .f32⟩
  | .hbm, ⟨22, _⟩ => ⟨S256x256, .bf16⟩
  | .hbm, ⟨23, _⟩ => ⟨S512x256, .bf16⟩
  | .hbm, ⟨24, _⟩ => ⟨S1024x512, .bf16⟩
  | .hbm, ⟨25, _⟩ => ⟨S256x1, .f32⟩
  | .hbm, ⟨26, _⟩ => ⟨S256x1, .f32⟩
  | .hbm, ⟨27, _⟩ => ⟨S512x1, .f32⟩
  | .hbm, ⟨28, _⟩ => ⟨S512x1, .f32⟩
  | .hbm, ⟨29, _⟩ => ⟨S1024x1, .f32⟩
  | .hbm, ⟨30, _⟩ => ⟨S1024x1, .f32⟩
  | .hbm, ⟨31, _⟩ => ⟨S1024x8, .f32⟩
  | .hbm, ⟨32, _⟩ => ⟨S8x1024, .f32⟩
  | .hbm, ⟨33, _⟩ => ⟨S8x1024x1, .f32⟩
  | .hbm, ⟨34, _⟩ => ⟨S_, .f32⟩
  | .hbm, ⟨35, _⟩ => ⟨S8x3x1, .f32⟩
  | .local _ .vmem, ⟨0, _⟩ => ⟨S32x3x512, .bf16⟩
  | .local _ .vmem, ⟨1, _⟩ => ⟨S8x256x2048, .bf16⟩
  | .local _ .vmem, ⟨2, _⟩ => ⟨S8x256x2048, .bf16⟩
  | .local _ .vmem, ⟨3, _⟩ => ⟨S256x3, .bf16⟩
  | .local _ .vmem, ⟨4, _⟩ => ⟨S256x256, .bf16⟩
  | .local _ .vmem, ⟨5, _⟩ => ⟨S512x256, .bf16⟩
  | .local _ .vmem, ⟨6, _⟩ => ⟨S1024x512, .bf16⟩
  | .local _ .vmem, ⟨7, _⟩ => ⟨S256x1, .f32⟩
  | .local _ .vmem, ⟨8, _⟩ => ⟨S256x1, .f32⟩
  | .local _ .vmem, ⟨9, _⟩ => ⟨S512x1, .f32⟩
  | .local _ .vmem, ⟨10, _⟩ => ⟨S512x1, .f32⟩
  | .local _ .vmem, ⟨11, _⟩ => ⟨S1024x1, .f32⟩
  | .local _ .vmem, ⟨12, _⟩ => ⟨S1024x1, .f32⟩
  | .local _ .vmem, ⟨13, _⟩ => ⟨S1024x8, .f32⟩
  | .local _ .vmem, ⟨14, _⟩ => ⟨S32x256x512, .bf16⟩
  | .local _ .vmem, ⟨15, _⟩ => ⟨S32x512x512, .bf16⟩
  | .local _ .vmem, ⟨16, _⟩ => ⟨S256x128, .f32⟩
  | .local _ .vmem, ⟨17, _⟩ => ⟨S256x128, .f32⟩
  | .local _ .vmem, ⟨18, _⟩ => ⟨S512x128, .f32⟩
  | .local _ .vmem, ⟨19, _⟩ => ⟨S512x128, .f32⟩
  | .local _ .vmem, ⟨20, _⟩ => ⟨S1024x128, .f32⟩
  | .local _ .vmem, ⟨21, _⟩ => ⟨S1024x128, .f32⟩
  | .local _ .vmem, ⟨22, _⟩ => ⟨S256x128, .bf16⟩
  | .local _ .vmem, ⟨23, _⟩ => ⟨S256x128, .bf16⟩
  | .local _ .vmem, ⟨24, _⟩ => ⟨S512x128, .bf16⟩
  | .local _ .vmem, ⟨25, _⟩ => ⟨S512x128, .bf16⟩
  | .local _ .vmem, ⟨26, _⟩ => ⟨S1024x8, .f32⟩
  | _, _ => ⟨S8x3x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst : Ref sig .tc := ⟨.hbm, 34, rfl⟩
abbrev main_v20 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_scratch9 : Ref sig .tc := ⟨.vmem, 23, rfl⟩
abbrev cc0_scratch10 : Ref sig .tc := ⟨.vmem, 24, rfl⟩
abbrev cc0_scratch11 : Ref sig .tc := ⟨.vmem, 25, rfl⟩
abbrev cc0_scratch12 : Ref sig .tc := ⟨.vmem, 26, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13

abbrev nD : Nat := 1
abbrev τ : Topo := Topo.v7x

variable {F : FTy → Type} [FloatOps F]

abbrev grid0 : Pipeline.Grid := ⟨1, ![3], ![false]⟩

def k0_cond1 (i : grid0.Coords) : BitVec 1 :=
  let arg0 : BitVec 32 := BitVec.ofNat 32 (i 0).val
  let c1_i32_37 : BitVec 32 := 1#32
  let v74 : BitVec 1 := Scalar.cmpi .slt arg0 c1_i32_37
  let v75 : BitVec 32 := Scalar.extui v74
  let c0_i32_38 : BitVec 32 := 0#32
  let v76 : BitVec 1 := Scalar.cmpi .ne v75 c0_i32_38
  v76

def k0_off1 (i : grid0.Coords) (c0_i32_4 : BitVec 32) : Fin 3 → Nat :=
  let c32_i32 : BitVec 32 := 32#32
  let arg0 : BitVec 32 := BitVec.ofNat 32 (i 0).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg0 v1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let c0_i32_1 : BitVec 32 := 0#32
  let v3 : BitVec 1 := Scalar.cmpi .ne v2 c0_i32_1
  let v7 : BitVec 1 := Scalar.andi v6 v3
  let v8 : BitVec 32 := Scalar.addi v2 v1
  let v9 : BitVec 32 := Scalar.select v7 v8 v2
  let v10 : BitVec 32 := Scalar.muli c32_i32 v9
  let v11 : BitVec 32 := Scalar.addi v10 c0_i32_4
  let v93 : Index := Scalar.indexCast v11
  let c0_50 : Index := 0#32
  let c0_51 : Index := 0#32
  ![v93.toNat, 0, 0]
def k0_off2 (i : grid0.Coords) (c0_i32_4 : BitVec 32) : Fin 3 → Nat :=
  let c32_i32 : BitVec 32 := 32#32
  let arg0 : BitVec 32 := BitVec.ofNat 32 (i 0).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg0 v1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let c0_i32_1 : BitVec 32 := 0#32
  let v3 : BitVec 1 := Scalar.cmpi .ne v2 c0_i32_1
  let v7 : BitVec 1 := Scalar.andi v6 v3
  let v8 : BitVec 32 := Scalar.addi v2 v1
  let v9 : BitVec 32 := Scalar.select v7 v8 v2
  let v10 : BitVec 32 := Scalar.muli c32_i32 v9
  let v11 : BitVec 32 := Scalar.addi v10 c0_i32_4
  let v99 : Index := Scalar.indexCast v11
  let c0_53 : Index := 0#32
  let c0_54 : Index := 0#32
  ![v99.toNat, 0, 0]
def k0_cond5 (i : grid0.Coords) : BitVec 1 :=
  let arg0 : BitVec 32 := BitVec.ofNat 32 (i 0).val
  let c1_i32_39 : BitVec 32 := 1#32
  let v77 : BitVec 1 := Scalar.cmpi .sge arg0 c1_i32_39
  let c2_i32_40 : BitVec 32 := 2#32
  let v78 : BitVec 1 := Scalar.cmpi .slt arg0 c2_i32_40
  let v79 : BitVec 1 := Scalar.andi v77 v78
  let v80 : BitVec 32 := Scalar.extui v79
  let c0_i32_41 : BitVec 32 := 0#32
  let v81 : BitVec 1 := Scalar.cmpi .ne v80 c0_i32_41
  v81

def k0_off3 (i : grid0.Coords) (c0_i32_4 : BitVec 32) : Fin 3 → Nat :=
  let c32_i32 : BitVec 32 := 32#32
  let arg0 : BitVec 32 := BitVec.ofNat 32 (i 0).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg0 v1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let c0_i32_1 : BitVec 32 := 0#32
  let v3 : BitVec 1 := Scalar.cmpi .ne v2 c0_i32_1
  let v7 : BitVec 1 := Scalar.andi v6 v3
  let v8 : BitVec 32 := Scalar.addi v2 v1
  let v9 : BitVec 32 := Scalar.select v7 v8 v2
  let v10 : BitVec 32 := Scalar.muli c32_i32 v9
  let v11 : BitVec 32 := Scalar.addi v10 c0_i32_4
  let v87 : Index := Scalar.indexCast v11
  let c0_47 : Index := 0#32
  let c0_48 : Index := 0#32
  ![v87.toNat, 0, 0]
def k0_off4 (i : grid0.Coords) (c0_i32_4 : BitVec 32) : Fin 3 → Nat :=
  let c32_i32 : BitVec 32 := 32#32
  let arg0 : BitVec 32 := BitVec.ofNat 32 (i 0).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg0 v1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let c0_i32_1 : BitVec 32 := 0#32
  let v3 : BitVec 1 := Scalar.cmpi .ne v2 c0_i32_1
  let v7 : BitVec 1 := Scalar.andi v6 v3
  let v8 : BitVec 32 := Scalar.addi v2 v1
  let v9 : BitVec 32 := Scalar.select v7 v8 v2
  let v10 : BitVec 32 := Scalar.muli c32_i32 v9
  let v11 : BitVec 32 := Scalar.addi v10 c0_i32_4
  let v115 : Index := Scalar.indexCast v11
  let c0_55 : Index := 0#32
  let c0_56 : Index := 0#32
  ![v115.toNat, 0, 0]
def k0_cond9 (i : grid0.Coords) : BitVec 1 :=
  let arg0 : BitVec 32 := BitVec.ofNat 32 (i 0).val
  let c2_i32_42 : BitVec 32 := 2#32
  let v82 : BitVec 1 := Scalar.cmpi .sge arg0 c2_i32_42
  let v83 : BitVec 32 := Scalar.extui v82
  let c0_i32_43 : BitVec 32 := 0#32
  let v84 : BitVec 1 := Scalar.cmpi .ne v83 c0_i32_43
  v84

def k0_off5 (i : grid0.Coords) (c0_i32_4 : BitVec 32) : Fin 3 → Nat :=
  let c32_i32 : BitVec 32 := 32#32
  let arg0 : BitVec 32 := BitVec.ofNat 32 (i 0).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg0 v1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let c0_i32_1 : BitVec 32 := 0#32
  let v3 : BitVec 1 := Scalar.cmpi .ne v2 c0_i32_1
  let v7 : BitVec 1 := Scalar.andi v6 v3
  let v8 : BitVec 32 := Scalar.addi v2 v1
  let v9 : BitVec 32 := Scalar.select v7 v8 v2
  let v10 : BitVec 32 := Scalar.muli c32_i32 v9
  let v11 : BitVec 32 := Scalar.addi v10 c0_i32_4
  let v87 : Index := Scalar.indexCast v11
  let c0_47 : Index := 0#32
  let c0_48 : Index := 0#32
  ![v87.toNat, 0, 0]
def k0_cond12 (i : grid0.Coords) : BitVec 1 :=
  let arg0 : BitVec 32 := BitVec.ofNat 32 (i 0).val
  let c1_i32 : BitVec 32 := 1#32
  let c0_i32 : BitVec 32 := 0#32
  let v0 : BitVec 1 := Scalar.cmpi .eq c1_i32 c0_i32
  let c1_i32_0 : BitVec 32 := 1#32
  let v1 : BitVec 32 := Scalar.select v0 c1_i32_0 c1_i32
  let v2 : BitVec 32 := Scalar.remsi arg0 v1
  let c0_i32_2 : BitVec 32 := 0#32
  let v4 : BitVec 1 := Scalar.cmpi .slt v2 c0_i32_2
  let c0_i32_3 : BitVec 32 := 0#32
  let v5 : BitVec 1 := Scalar.cmpi .slt v1 c0_i32_3
  let v6 : BitVec 1 := Scalar.xori v4 v5
  let c0_i32_1 : BitVec 32 := 0#32
  let v3 : BitVec 1 := Scalar.cmpi .ne v2 c0_i32_1
  let v7 : BitVec 1 := Scalar.andi v6 v3
  let v8 : BitVec 32 := Scalar.addi v2 v1
  let v9 : BitVec 32 := Scalar.select v7 v8 v2
  let c0_i32_489 : BitVec 32 := 0#32
  let v1990 : BitVec 1 := Scalar.cmpi .eq v9 c0_i32_489
  let v1991 : BitVec 32 := Scalar.extui v1990
  let c0_i32_490 : BitVec 32 := 0#32
  let v1992 : BitVec 1 := Scalar.cmpi .ne v1991 c0_i32_490
  v1992

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let v0 : BitVec 32 := Scalar.minsi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x3x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x3 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S8x3x2048 : Shape := ⟨3, ![8, 3, 2048]⟩
abbrev S8x256x2048 : Shape := ⟨3, ![8, 256, 2048]⟩
abbrev S256x259 : Shape := ⟨2, ![256, 259]⟩
abbrev S256 : Shape := ⟨1, ![256]⟩
abbrev S512x256 : Shape := ⟨2, ![512, 256]⟩
abbrev S512 : Shape := ⟨1, ![512]⟩
abbrev S1024x512 : Shape := ⟨2, ![1024, 512]⟩
abbrev S1024 : Shape := ⟨1, ![1024]⟩
abbrev S8x259x2048 : Shape := ⟨3, ![8, 259, 2048]⟩
abbrev S8x2048x256 : Shape := ⟨3, ![8, 2048, 256]⟩
abbrev S1x256x1 : Shape := ⟨3, ![1, 256, 1]⟩
abbrev S_ : Shape := ⟨0, ![]⟩
abbrev S8x2048x512 : Shape := ⟨3, ![8, 2048, 512]⟩
abbrev S8x512x2048 : Shape := ⟨3, ![8, 512, 2048]⟩
abbrev S1x512x1 : Shape := ⟨3, ![1, 512, 1]⟩
abbrev S8x2048x1024 : Shape := ⟨3, ![8, 2048, 1024]⟩
abbrev S8x1024x2048 : Shape := ⟨3, ![8, 1024, 2048]⟩
abbrev S1x1024x1 : Shape := ⟨3, ![1, 1024, 1]⟩
abbrev S8x1024 : Shape := ⟨2, ![8, 1024]⟩
abbrev S8x1024x1 : Shape := ⟨3, ![8, 1024, 1]⟩
abbrev S8x3x1 : Shape := ⟨3, ![8, 3, 1]⟩

abbrev nBuf : Space → Nat
  | .hbm => 131
  | .vmem => 0
  | .smem => 0
  | _ => 0

abbrev hbmTy0_0 (i : Nat) : BufTy := match i % 128 with
  | 0 => ⟨S8x3x2048, .f32⟩
  | 1 => ⟨S8x256x2048, .f32⟩
  | 2 => ⟨S256x259, .f32⟩
  | 3 => ⟨S256, .f32⟩
  | 4 => ⟨S256, .f32⟩
  | 5 => ⟨S256, .f32⟩
  | 6 => ⟨S512x256, .f32⟩
  | 7 => ⟨S512, .f32⟩
  | 8 => ⟨S512, .f32⟩
  | 9 => ⟨S512, .f32⟩
  | 10 => ⟨S1024x512, .f32⟩
  | 11 => ⟨S1024, .f32⟩
  | 12 => ⟨S1024, .f32⟩
  | 13 => ⟨S1024, .f32⟩
  | 14 => ⟨S8x259x2048, .f32⟩
  | 15 => ⟨S8x2048x256, .f32⟩
  | 16 => ⟨S8x256x2048, .f32⟩
  | 17 => ⟨S1x256x1, .f32⟩
  | 18 => ⟨S8x256x2048, .f32⟩
  | 19 => ⟨S8x256x2048, .f32⟩
  | 20 => ⟨S_, .f32⟩
  | 21 => ⟨S256, .f32⟩
  | 22 => ⟨S1x256x1, .f32⟩
  | 23 => ⟨S_, .f32⟩
  | 24 => ⟨S1x256x1, .f32⟩
  | 25 => ⟨S1x256x1, .f32⟩
  | 26 => ⟨S8x256x2048, .f32⟩
  | 27 => ⟨S8x256x2048, .f32⟩
  | 28 => ⟨S8x256x2048, .f32⟩
  | 29 => ⟨S_, .f32⟩
  | 30 => ⟨S256, .f32⟩
  | 31 => ⟨S1x256x1, .f32⟩
  | 32 => ⟨S_, .f32⟩
  | 33 => ⟨S1x256x1, .f32⟩
  | 34 => ⟨S1x256x1, .f32⟩
  | 35 => ⟨S8x256x2048, .f32⟩
  | 36 => ⟨S8x256x2048, .f32⟩
  | 37 => ⟨S_, .f32⟩
  | 38 => ⟨S1x256x1, .f32⟩
  | 39 => ⟨S1x256x1, .f32⟩
  | 40 => ⟨S1x256x1, .f32⟩
  | 41 => ⟨S8x256x2048, .f32⟩
  | 42 => ⟨S8x256x2048, .f32⟩
  | 43 => ⟨S1x256x1, .f32⟩
  | 44 => ⟨S8x256x2048, .f32⟩
  | 45 => ⟨S8x256x2048, .f32⟩
  | 46 => ⟨S1x256x1, .f32⟩
  | 47 => ⟨S8x256x2048, .f32⟩
  | 48 => ⟨S8x256x2048, .f32⟩
  | 49 => ⟨S_, .f32⟩
  | 50 => ⟨S8x256x2048, .f32⟩
  | 51 => ⟨S8x256x2048, .f32⟩
  | 52 => ⟨S8x2048x512, .f32⟩
  | 53 => ⟨S8x512x2048, .f32⟩
  | 54 => ⟨S1x512x1, .f32⟩
  | 55 => ⟨S8x512x2048, .f32⟩
  | 56 => ⟨S8x512x2048, .f32⟩
  | 57 => ⟨S_, .f32⟩
  | 58 => ⟨S512, .f32⟩
  | 59 => ⟨S1x512x1, .f32⟩
  | 60 => ⟨S_, .f32⟩
  | 61 => ⟨S1x512x1, .f32⟩
  | 62 => ⟨S1x512x1, .f32⟩
  | 63 => ⟨S8x512x2048, .f32⟩
  | 64 => ⟨S8x512x2048, .f32⟩
  | 65 => ⟨S8x512x2048, .f32⟩
  | 66 => ⟨S_, .f32⟩
  | 67 => ⟨S512, .f32⟩
  | 68 => ⟨S1x512x1, .f32⟩
  | 69 => ⟨S_, .f32⟩
  | 70 => ⟨S1x512x1, .f32⟩
  | 71 => ⟨S1x512x1, .f32⟩
  | 72 => ⟨S8x512x2048, .f32⟩
  | 73 => ⟨S8x512x2048, .f32⟩
  | 74 => ⟨S_, .f32⟩
  | 75 => ⟨S1x512x1, .f32⟩
  | 76 => ⟨S1x512x1, .f32⟩
  | 77 => ⟨S1x512x1, .f32⟩
  | 78 => ⟨S8x512x2048, .f32⟩
  | 79 => ⟨S8x512x2048, .f32⟩
  | 80 => ⟨S1x512x1, .f32⟩
  | 81 => ⟨S8x512x2048, .f32⟩
  | 82 => ⟨S8x512x2048, .f32⟩
  | 83 => ⟨S1x512x1, .f32⟩
  | 84 => ⟨S8x512x2048, .f32⟩
  | 85 => ⟨S8x512x2048, .f32⟩
  | 86 => ⟨S_, .f32⟩
  | 87 => ⟨S8x512x2048, .f32⟩
  | 88 => ⟨S8x512x2048, .f32⟩
  | 89 => ⟨S8x2048x1024, .f32⟩
  | 90 => ⟨S8x1024x2048, .f32⟩
  | 91 => ⟨S1x1024x1, .f32⟩
  | 92 => ⟨S8x1024x2048, .f32⟩
  | 93 => ⟨S8x1024x2048, .f32⟩
  | 94 => ⟨S_, .f32⟩
  | 95 => ⟨S1024, .f32⟩
  | 96 => ⟨S1x1024x1, .f32⟩
  | 97 => ⟨S_, .f32⟩
  | 98 => ⟨S1x1024x1, .f32⟩
  | 99 => ⟨S1x1024x1, .f32⟩
  | 100 => ⟨S8x1024x2048, .f32⟩
  | 101 => ⟨S8x1024x2048, .f32⟩
  | 102 => ⟨S8x1024x2048, .f32⟩
  | 103 => ⟨S_, .f32⟩
  | 104 => ⟨S1024, .f32⟩
  | 105 => ⟨S1x1024x1, .f32⟩
  | 106 => ⟨S_, .f32⟩
  | 107 => ⟨S1x1024x1, .f32⟩
  | 108 => ⟨S1x1024x1, .f32⟩
  | 109 => ⟨S8x1024x2048, .f32⟩
  | 110 => ⟨S8x1024x2048, .f32⟩
  | 111 => ⟨S_, .f32⟩
  | 112 => ⟨S1x1024x1, .f32⟩
  | 113 => ⟨S1x1024x1, .f32⟩
  | 114 => ⟨S1x1024x1, .f32⟩
  | 115 => ⟨S8x1024x2048, .f32⟩
  | 116 => ⟨S8x1024x2048, .f32⟩
  | 117 => ⟨S1x1024x1, .f32⟩
  | 118 => ⟨S8x1024x2048, .f32⟩
  | 119 => ⟨S8x1024x2048, .f32⟩
  | 120 => ⟨S1x1024x1, .f32⟩
  | 121 => ⟨S8x1024x2048, .f32⟩
  | 122 => ⟨S8x1024x2048, .f32⟩
  | 123 => ⟨S_, .f32⟩
  | 124 => ⟨S8x1024x2048, .f32⟩
  | 125 => ⟨S8x1024x2048, .f32⟩
  | 126 => ⟨S_, .f32⟩
  | 127 => ⟨S8x1024, .f32⟩
  | _ => ⟨S8x3x2048, .f32⟩

abbrev hbmTy0_1 (i : Nat) : BufTy := match i % 128 with
  | 0 => ⟨S8x1024x1, .f32⟩
  | 1 => ⟨S_, .f32⟩
  | 2 => ⟨S8x3x1, .f32⟩
  | _ => ⟨S8x3x2048, .f32⟩

abbrev hbmTy (i : Nat) : BufTy := match i / 128 with
  | 0 => hbmTy0_0 i
  | 1 => hbmTy0_1 i
  | _ => ⟨S8x3x2048, .f32⟩

abbrev bufTy : (tb : Table) → Fin (tcTables nBuf tb) → BufTy
  | .hbm, ⟨i, _⟩ => hbmTy i
  | _, _ => ⟨S8x3x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_v45 : Ref sig .tc := ⟨.hbm, 68, rfl⟩
abbrev main_cst_8 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_10 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_11 : Ref sig .tc := ⟨.hbm, 94, rfl⟩
abbrev main_v68 : Ref sig .tc := ⟨.hbm, 95, rfl⟩
abbrev main_v69 : Ref sig .tc := ⟨.hbm, 96, rfl⟩
abbrev main_cst_12 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_13 : Ref sig .tc := ⟨.hbm, 103, rfl⟩
abbrev main_v75 : Ref sig .tc := ⟨.hbm, 104, rfl⟩
abbrev main_v76 : Ref sig .tc := ⟨.hbm, 105, rfl⟩
abbrev main_cst_14 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_15 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_16 : Ref sig .tc := ⟨.hbm, 123, rfl⟩
abbrev main_v92 : Ref sig .tc := ⟨.hbm, 124, rfl⟩
abbrev main_v93 : Ref sig .tc := ⟨.hbm, 125, rfl⟩
abbrev main_cst_17 : Ref sig .tc := ⟨.hbm, 126, rfl⟩
abbrev main_v94 : Ref sig .tc := ⟨.hbm, 127, rfl⟩
abbrev main_v95 : Ref sig .tc := ⟨.hbm, 128, rfl⟩
abbrev main_cst_18 : Ref sig .tc := ⟨.hbm, 129, rfl⟩
abbrev main_v96 : Ref sig .tc := ⟨.hbm, 130, rfl⟩

abbrev nD : Nat := 1
abbrev τ : Topo := Topo.v7x

variable {F : FTy → Type} [FloatOps F]
-- ==== Proof.RunA.lean ====
module

public import proofs.«01_k».proof.Proof.Gen.KernelIdeal.Frame
public import proofs.«01_k».proof.Proof.Gen.KernelIdeal.Skeleton

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

theorem c1_5 : ∀ i : grid0.Coords, k0_cond1 i = 1#1 → ¬ k0_cond5 i = 1#1 := by decide +kernel
theorem c1_9 : ∀ i : grid0.Coords, k0_cond1 i = 1#1 → ¬ k0_cond9 i = 1#1 := by decide +kernel

set_option maxHeartbeats 0 in
/-- The first point's run of the body: the first convolution over all tiles, its statistics and its scale and shift. -/
noncomputable def runA (c : Dev nD) (i : grid0.Coords) (arg1 : Memref sig .tc .vmem S32x3x512 .bf16) (harg1 : arg1.IsWhole) (arg2 : Memref sig .tc .vmem S8x256x2048 .bf16) (harg2 : arg2.IsWhole) (arg3 : Memref sig .tc .vmem S256x3 .bf16) (harg3 : arg3.IsWhole) (arg4 : Memref sig .tc .vmem S256x256 .bf16) (harg4 : arg4.IsWhole) (arg5 : Memref sig .tc .vmem S512x256 .bf16) (harg5 : arg5.IsWhole) (arg6 : Memref sig .tc .vmem S1024x512 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x8 .f32) (harg13 : arg13.IsWhole) (arg14 : Memref sig .tc .vmem S32x256x512 .bf16) (harg14 : arg14.IsWhole) (arg15 : Memref sig .tc .vmem S32x512x512 .bf16) (harg15 : arg15.IsWhole) (arg16 : Memref sig .tc .vmem S256x128 .f32) (harg16 : arg16.IsWhole) (arg17 : Memref sig .tc .vmem S256x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S256x128 .bf16) (harg22 : arg22.IsWhole) (arg23 : Memref sig .tc .vmem S256x128 .bf16) (harg23 : arg23.IsWhole) (arg24 : Memref sig .tc .vmem S512x128 .bf16) (harg24 : arg24.IsWhole) (arg25 : Memref sig .tc .vmem S512x128 .bf16) (harg25 : arg25.IsWhole) (arg26 : Memref sig .tc .vmem S1024x8 .f32) (harg26 : arg26.IsWhole)
    (hc : k0_cond1 i = 1#1)
    (x1 : Vec F S32x3x512 .bf16) (x2 : Vec F S8x256x2048 .bf16) (x3 : Vec F S256x3 .bf16) (x4 : Vec F S256x256 .bf16) (x7 : Vec F S256x1 .f32) (x8 : Vec F S256x1 .f32) :
    Σ' (L14 : List (View.Piece (Elt F) S32x256x512 .bf16)), Σ' (L16 : List (View.Piece (Elt F) S256x128 .f32)), Σ' (L17 : List (View.Piece (Elt F) S256x128 .f32)), Σ' (L22 : List (View.Piece (Elt F) S256x128 .bf16)), { L23 : List (View.Piece (Elt F) S256x128 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg7 fullShare x7 ∗ owns (c : Thread nD τ) arg8 fullShare x8 ∗ (∃ d, owns (c : Thread nD τ) arg14 fullShare d) ∗ (∃ d, owns (c : Thread nD τ) arg16 fullShare d) ∗ (∃ d, owns (c : Thread nD τ) arg17 fullShare d) ∗ (∃ d, owns (c : Thread nD τ) arg22 fullShare d) ∗ (∃ d, owns (c : Thread nD τ) arg23 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg7 fullShare x7 ∗ owns (c : Thread nD τ) arg8 fullShare x8
              ∗ (∃ f, arg14.view.loc (c : Thread nD τ) ↦[arg14.view.set]{fullShare} arg14.view.writes (Elt F) f L14)
              ∗ (∃ f, arg16.view.loc (c : Thread nD τ) ↦[arg16.view.set]{fullShare} arg16.view.writes (Elt F) f L16)
              ∗ (∃ f, arg17.view.loc (c : Thread nD τ) ↦[arg17.view.set]{fullShare} arg17.view.writes (Elt F) f L17)
              ∗ (∃ f, arg22.view.loc (c : Thread nD τ) ↦[arg22.view.set]{fullShare} arg22.view.writes (Elt F) f L22)
              ∗ (∃ f, arg23.view.loc (c : Thread nD τ) ↦[arg23.view.set]{fullShare} arg23.view.writes (Elt F) f L23)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, ?_, ?_, ?_, fun E K => ?run⟩
  case run =>
    simp only [cc0__body_eq_skeleton]; unfold cc0__body_skel
    unfold owns
    iintro ⟨⟨%f1, %hf1, H1⟩, ⟨%f2, %hf2, H2⟩, ⟨%f3, %hf3, H3⟩, ⟨%f4, %hf4, H4⟩, ⟨%f7, %hf7, H7⟩, ⟨%f8, %hf8, H8⟩, ⟨%d14, %f14, -, H14⟩, ⟨%d16, %f16, -, H16⟩, ⟨%d17, %f17, -, H17⟩, ⟨%d22, %f22, -, H22⟩, ⟨%d23, %f23, -, H23⟩, Hk⟩
    obtain rfl := harg1.eq_unread hf1
    obtain rfl := harg2.eq_unread hf2
    obtain rfl := harg3.eq_unread hf3
    obtain rfl := harg4.eq_unread hf4
    obtain rfl := harg7.eq_unread hf7
    obtain rfl := harg8.eq_unread hf8
    sl_exec (disch := first | sl_exact hc | sl_exact c1_5 i hc | sl_exact c1_9 i hc | (clear * - i; decide +kernel +revert))
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H7]
    · iexists _; isplitr; · ipureintro; exact harg7.read_unread _
      iexact H7
    isplitl [H8]
    · iexists _; isplitr; · ipureintro; exact harg8.read_unread _
      iexact H8
    isplitl [H14]; · iexists _; iexact H14
    isplitl [H16]; · iexists _; iexact H16
    isplitl [H17]; · iexists _; iexact H17
    isplitl [H22]; · iexists _; iexact H22
    iexists _; iexact H23

end Cert.KernelIdeal.Hand

end
-- ==== Proof.Tiles.lean ====
module

public import proofs.«01_k».proof.Proof.Gen.KernelIdeal.Skeleton

@[expose] public section

/-! The layers of the network as functions of vectors, tile by tile, at any float instance: the convolutions, the
per-tile sums and maxima over lane slabs, the normalisation's scale and shift. Widths are parameters, so the three
layers share one text. -/

noncomputable section

namespace Cert.KernelIdeal.Hand

open Idealize.ShloMosaic Cert.KernelIdeal.Gen

/-- A matrix's shape. -/
abbrev Mx (r c : ℕ) : Shape := ⟨2, ![r, c]⟩

theorem slab_ok (C : ℕ) (j : Fin 4) : (Mx C 512).Slices ![0, 128 * j.val] (Mx C 128) :=
  ⟨rfl, fun a => by
    have hj := j.isLt
    match a with
    | ⟨0, _⟩ => exact (Nat.zero_add C).le
    | ⟨1, _⟩ => show 128 * j.val + 128 ≤ 512; omega⟩

theorem glue_ok (C : ℕ) : Shape.Concatenates [Mx C 128, Mx C 128, Mx C 128, Mx C 128] (Mx C 512) 1 := by
  refine ⟨Nat.le_of_ble_eq_true rfl, fun s hs => ?_, rfl⟩
  have e : s = Mx C 128 := by simpa using hs
  subst e
  refine ⟨rfl, fun b hb => ?_⟩
  match b with
  | ⟨0, _⟩ => rfl
  | ⟨1, _⟩ => exact absurd rfl hb

theorem rowsum_ok (C n : ℕ) : (Mx C n).Reduces [1] ⟨1, ![C]⟩ :=
  ⟨rfl, Nat.one_pos, fun b => by match b with | ⟨0, _⟩ => rfl⟩

theorem col_ok (C : ℕ) : (⟨1, ![C]⟩ : Shape).ShapeCasts (Mx C 1) := by
  simp [Shape.ShapeCasts, Shape.numel, Fin.prod_univ_succ]

theorem spread_ok (C n : ℕ) : (Mx C 1).Broadcasts (Mx C n) :=
  ⟨le_rfl, fun a => by
    match a with
    | ⟨0, _⟩ => exact .inr fun _ => rfl
    | ⟨1, _⟩ => exact .inl rfl⟩

theorem half_lt : FTy.bits .bf16 < FTy.bits .f32 := by decide

variable {F : FTy → Type} [FloatOps F]

/-- A vector cast to its own shape. -/
def same {s : Shape} {α : Type} (x : s.Idx → α) : s.Idx → α := shapeCast s x rfl

/-- The block of a buffer's values a load reads. -/
def ld {s : Shape} {α : Type} (X : s.Idx → α) (B : LoadRect s) : B.shape.Idx → α := fun x => X (B.idx x)

/-- The 128 lanes of slab `j` of a tile. -/
def slab {C : ℕ} {φ : FTy} (y : FVec F (Mx C 512) φ) (j : Fin 4) : FVec F (Mx C 128) φ :=
  extractStridedSlice (Mx C 128) ![0, 128 * j.val] y (slab_ok C j)

/-- A 1×1 convolution of one tile, rounded to bf16. -/
def conv {C D : ℕ} (w : FVec F (Mx D C) .bf16) (z : FVec F (Mx C 512) .bf16) : FVec F (Mx D 512) .bf16 :=
  truncf .bf16 (matmul (DotDims.plain D C 512) none (same w) z (constant (Mx D 512) .f32 0x00000000#32)) half_lt

/-- The first convolution of one tile: its channels come in two groups. -/
def conv2 {A C D : ℕ} (v : FVec F (Mx D A) .bf16) (w : FVec F (Mx D C) .bf16) (x : FVec F (Mx A 512) .bf16)
    (z : FVec F (Mx C 512) .bf16) : FVec F (Mx D 512) .bf16 :=
  truncf .bf16 (addf (matmul (DotDims.plain D C 512) none (same w) z (constant (Mx D 512) .f32 0x00000000#32))
    (matmul (DotDims.plain D A 512) none (same v) x (constant (Mx D 512) .f32 0x00000000#32))) half_lt

/-- One slab normalised and rectified. -/
def act {C : ℕ} (sc sh : FVec F (Mx C 128) .bf16) (y : FVec F (Mx C 512) .bf16) (j : Fin 4) : FVec F (Mx C 128) .bf16 :=
  maximumf (addf (mulf (slab y j) sc) sh) (broadcast (Mx C 128) (Scalar.ofBits .bf16 0x0000#16))

/-- A tile normalised and rectified, slab by slab. -/
def bnrelu {C : ℕ} (sc sh : FVec F (Mx C 128) .bf16) (y : FVec F (Mx C 512) .bf16) : FVec F (Mx C 512) .bf16 :=
  concatenate (Mx C 512) 1 [⟨Mx C 128, act sc sh y 0⟩, ⟨Mx C 128, act sc sh y 1⟩, ⟨Mx C 128, act sc sh y 2⟩,
    ⟨Mx C 128, act sc sh y 3⟩] (glue_ok C)

/-- The four slabs of a tile added. -/
def fold {C : ℕ} (y : FVec F (Mx C 512) .bf16) : FVec F (Mx C 128) .f32 :=
  extf .f32 (addf (addf (addf (slab y 0) (slab y 1)) (slab y 2)) (slab y 3)) half_lt

/-- The same of a tile's squares. -/
def foldsq {C : ℕ} (y : FVec F (Mx C 512) .bf16) : FVec F (Mx C 128) .f32 := fold (mulf y y)

/-- Terms `0 … n` added in order. -/
def accum {s : Shape} (f : ℕ → FVec F s .f32) : ℕ → FVec F s .f32
  | 0 => f 0
  | n + 1 => addf (accum f n) (f (n + 1))

/-- The greatest entries of a tile's slabs. -/
def slabmax {C : ℕ} (y : FVec F (Mx C 512) .bf16) : FVec F (Mx C 128) .bf16 :=
  maximumf (maximumf (maximumf (slab y 0) (slab y 1)) (slab y 2)) (slab y 3)

/-- The greatest entries so far, continued with a tile's slabs. -/
def slabmax' {C : ℕ} (m : FVec F (Mx C 128) .bf16) (y : FVec F (Mx C 512) .bf16) : FVec F (Mx C 128) .bf16 :=
  maximumf (maximumf (maximumf (maximumf m (slab y 0)) (slab y 1)) (slab y 2)) (slab y 3)

/-- The greatest entries of a batch's four tiles, lane by lane. -/
def batchmax {C : ℕ} (y0 y1 y2 y3 : FVec F (Mx C 512) .bf16) : FVec F (Mx C 128) .bf16 :=
  slabmax' (slabmax' (slabmax' (slabmax y0) y1) y2) y3

/-- The greatest entry over the lanes. -/
def lanemax {C : ℕ} (m : FVec F (Mx C 128) .bf16) : FVec F (Mx C 1) .f32 :=
  extf .f32 (shapeCast (Mx C 1) (multiReduction .maximumf [1] ⟨1, ![C]⟩ m 0xFF80#16 (rowsum_ok C 128) (.inr rfl) rfl)
    (col_ok C)) half_lt

/-- A lane sum divided by the number of samples. -/
def lanemean {C : ℕ} (s : FVec F (Mx C 128) .f32) : FVec F (Mx C 1) .f32 :=
  mulf (shapeCast (Mx C 1) (multiReduction .add [1] ⟨1, ![C]⟩ s 0x00000000#32 (rowsum_ok C 128) (.inl rfl) rfl)
    (col_ok C)) (broadcast (Mx C 1) (Scalar.ofBits .f32 0x38800000#32))

/-- The normalisation's scale, from the scale parameter and the lane sums of the values and of their squares. -/
def bnscale {C : ℕ} (g : FVec F (Mx C 1) .f32) (s q : FVec F (Mx C 128) .f32) : FVec F (Mx C 1) .f32 :=
  mulf (same g) (rsqrt (addf (maximumf (subf (lanemean q) (mulf (lanemean s) (lanemean s)))
    (broadcast (Mx C 1) (Scalar.ofBits .f32 0x00000000#32))) (broadcast (Mx C 1) (Scalar.ofBits .f32 0x3727C5AC#32))))

/-- The normalisation's shift. -/
def bnshift {C : ℕ} (g be : FVec F (Mx C 1) .f32) (s q : FVec F (Mx C 128) .f32) : FVec F (Mx C 1) .f32 :=
  subf (same be) (mulf (lanemean s) (bnscale g s q))

/-- A column repeated over the 128 lanes, rounded to bf16. -/
def lanes {C : ℕ} (v : FVec F (Mx C 1) .f32) : FVec F (Mx C 128) .bf16 :=
  same (truncf .bf16 (addf (broadcast (Mx C 128) (Scalar.ofBits .f32 0x00000000#32))
    (broadcastTo (Mx C 128) v (spread_ok C 128))) half_lt)

/-- The greatest pre-activations normalised and rectified: the network's result. -/
def finish {C : ℕ} (g be : FVec F (Mx C 1) .f32) (s q : FVec F (Mx C 128) .f32) (mx : FVec F (Mx C 8) .f32) :
    FVec F (Mx C 8) .f32 :=
  maximumf (addf (mulf mx (broadcastTo (Mx C 8) (bnscale g s q) (spread_ok C 8)))
    (broadcastTo (Mx C 8) (bnshift g be s q) (spread_ok C 8))) (broadcast (Mx C 8) (Scalar.ofBits .f32 0x00000000#32))

/-- The accumulator with the column `mx` put at lane `b`. -/
def putlane (b : BitVec 32) (mx : FVec F (Mx 1024 1) .f32) (acc : FVec F (Mx 1024 8) .f32) : FVec F (Mx 1024 8) .f32 :=
  select (cmpi .eq (iota .tc S1024x8 32 [1] Facts₀.iota_S1024x8_d1_w32) (broadcast (Mx 1024 8) b))
    (broadcastTo (Mx 1024 8) (same mx) (spread_ok 1024 8)) acc

theorem pts_ok (k : Fin 8) : ∀ a, (![k.val, 0, 0] : Fin 3 → Nat) a + S1x256x2048.size a ≤ S8x256x2048.size a := fun a => by
  have hk := k.isLt
  match a with
  | ⟨0, _⟩ => show k.val + 1 ≤ 8; omega
  | ⟨1, _⟩ => exact le_rfl
  | ⟨2, _⟩ => exact le_rfl

/-- One batch of the points. -/
def ptsRect (k : Fin 8) : Rect S8x256x2048 := Rect.unit ![k.val, 0, 0] S1x256x2048.size (pts_ok k)

theorem quarter_ok (t : Fin 32) : S256x2048.Slices ![0, 512 * (t.val % 4)] S256x512 :=
  ⟨rfl, fun a => by
    have ht : t.val % 4 < 4 := Nat.mod_lt _ (by omega)
    match a with
    | ⟨0, _⟩ => exact le_rfl
    | ⟨1, _⟩ => show 512 * (t.val % 4) + 512 ≤ 2048; omega⟩

/-- Tile `t` of the first layer: `z t` the tile's coordinates, `p k` the points of batch `k`. -/
def tile0 (v : FVec F S256x3 .bf16) (w : FVec F S256x256 .bf16) (z : Fin 32 → FVec F S1x3x512 .bf16)
    (p : Fin 8 → FVec F S1x256x2048 .bf16) (t : Fin 32) : FVec F S256x512 .bf16 :=
  conv2 v w (shapeCast S3x512 (z t) Facts₀.shapeCasts_S1x3x512_S3x512)
    (extractStridedSlice S256x512 ![0, 512 * (t.val % 4)]
      (shapeCast S256x2048 (p ⟨t.val / 4, by have := t.isLt; omega⟩) Facts₀.shapeCasts_S1x256x2048_S256x2048) (quarter_ok t))

/-- Tile `t` of the second layer, `y t` the first layer's tile. -/
def tile1 (w : FVec F S512x256 .bf16) (sc sh : FVec F S256x128 .bf16) (y : Fin 32 → FVec F S1x256x512 .bf16) (t : Fin 32) :
    FVec F S512x512 .bf16 :=
  conv w (bnrelu sc sh (shapeCast S256x512 (y t) Facts₀.shapeCasts_S1x256x512_S256x512))

/-- Tile `t` of the third layer, `y t` the second layer's tile. -/
def tile2 (w : FVec F S1024x512 .bf16) (sc sh : FVec F S512x128 .bf16) (y : Fin 32 → FVec F S1x512x512 .bf16) (t : Fin 32) :
    FVec F S1024x512 .bf16 :=
  conv w (bnrelu sc sh (shapeCast S512x512 (y t) Facts₀.shapeCasts_S1x512x512_S512x512))

/-- All tiles' values, summed over tiles and slabs. -/
def total {C : ℕ} (Y : Fin 32 → FVec F (Mx C 512) .bf16) : FVec F (Mx C 128) .f32 :=
  accum (fun n => fold (Y (Fin.ofNat 32 n))) 31

/-- All tiles' squares, summed over tiles and slabs. -/
def totalsq {C : ℕ} (Y : Fin 32 → FVec F (Mx C 512) .bf16) : FVec F (Mx C 128) .f32 :=
  accum (fun n => foldsq (Y (Fin.ofNat 32 n))) 31

/-- The greatest value of a batch, channel by channel. -/
def top (Y : Fin 32 → FVec F (Mx 1024 512) .bf16) (b : Fin 8) : FVec F (Mx 1024 1) .f32 :=
  lanemax (batchmax (Y ⟨4 * b.val, by omega⟩) (Y ⟨4 * b.val + 1, by omega⟩) (Y ⟨4 * b.val + 2, by omega⟩)
    (Y ⟨4 * b.val + 3, by omega⟩))

/-- The greatest values of the eight batches put at their lanes of `acc`. -/
def tops (s : BitVec 32) (Y : Fin 32 → FVec F (Mx 1024 512) .bf16) (acc : FVec F (Mx 1024 8) .f32) : FVec F (Mx 1024 8) .f32 :=
  let at_ (g : BitVec 32) : BitVec 32 := Scalar.addi (Scalar.muli 8#32 s) g
  putlane (at_ 7#32) (top Y 7) (putlane (at_ 6#32) (top Y 6) (putlane (at_ 5#32) (top Y 5) (putlane (at_ 4#32) (top Y 4)
    (putlane (at_ 3#32) (top Y 3) (putlane (at_ 2#32) (top Y 2) (putlane (at_ 1#32) (top Y 1)
      (putlane (at_ 0#32) (top Y 0) acc)))))))

/-- A list of one item for each tile, the last tile's first. -/
def down {α : Type} (f : Fin 32 → α) : List α := (List.finRange 32).reverse.map f

end Cert.KernelIdeal.Hand

end
-- ==== Proof.Loads.lean ====
module

public import proofs.«01_k».proof.Proof.Tiles
public import Idealize.ShloMosaic.Lib.WholeRead
public import Idealize.ShloMosaic.Lib.Writes
public import Idealize.ShloMosaic.Lib.ValueLayout
public import Idealize.ShloMosaic.Lib.ValueLayoutCasts
public import Idealize.ShloMosaic.Lib.Pipeline.Value

@[expose] public section

/-! What the runs' loads read and what their stores leave: a whole buffer, or one page of a stack of matrices. -/

noncomputable section

namespace Cert.KernelIdeal.Hand

open Idealize.ShloMosaic Idealize.ShloMosaic.ValueIdx

/-- One page of a stack of matrices. -/
def page {α : Type} {T R L : ℕ} (X : (⟨3, ![T, R, L]⟩ : Shape).Idx → α) (t : Fin T) : (⟨3, ![1, R, L]⟩ : Shape).Idx → α :=
  fun j => X (ix3 t (j 1) (j 2))

/-- Matrices stacked. -/
def stack {α : Type} {T R L : ℕ} (Y : Fin T → (Mx R L).Idx → α) : (⟨3, ![T, R, L]⟩ : Shape).Idx → α :=
  fun j => Y (j 0) (ix2 (j 1) (j 2))

/-- A page of a stack, as a matrix again. -/
theorem page_stack {α : Type} {T R L : ℕ} (Y : Fin T → (Mx R L).Idx → α) (t : Fin T)
    (h : (⟨3, ![1, R, L]⟩ : Shape).ShapeCasts (Mx R L)) : shapeCast (Mx R L) (page (stack Y) t) h = Y t := by
  funext j
  obtain ⟨r, l, rfl⟩ : ∃ r l, j = ix2 r l := ⟨_, _, eq_ix2 j⟩
  exact shapeCast_1ab_ab_apply _ h r l

theorem same_eq {α : Type} {s : Shape} (x : s.Idx → α) : same x = x := by
  unfold same
  exact funext fun j => shapeCast_apply x rfl j j rfl

section
variable {sig : RefSig} {κ : Kind} {sp : Space} {e : EltTy} {Val : EltTy → Type}

theorem zero2 : (![0, 0] : Fin 2 → ℕ) = fun _ => 0 := by funext a; match a with | ⟨0, _⟩ => rfl | ⟨1, _⟩ => rfl

theorem emb_whole {S : Shape} {off : Fin S.rank → ℕ} (h : off = fun _ => 0) (inb : ∀ a, off a + S.size a ≤ S.size a)
    (x : S.Idx) : (Rect.unit off S.size inb).emb x = x := by
  subst h
  exact Rect.emb_whole_apply S x

/-- A load of a whole buffer. -/
theorem load_whole {S : Shape} {m : Memref sig κ sp S e} (hm : m.IsWhole) (X : S.Idx → Val e) {off : Fin S.rank → ℕ}
    (h : off = fun _ => 0) (inb : ∀ a, off a + S.size a ≤ S.size a) :
    View.readAt Val m.view (Rect.unit off S.size inb).toLoadRect (hm.unread X) = X := by
  funext x
  exact (hm.readAt_unread X _ x).trans (congrArg X (emb_whole h inb x))

theorem emb_page {T R L : ℕ} {off : Fin 3 → ℕ} {t : Fin T} (h : off = ![t.val, 0, 0])
    (inb : ∀ a, off a + (⟨3, ![1, R, L]⟩ : Shape).size a ≤ (⟨3, ![T, R, L]⟩ : Shape).size a)
    (x : (⟨3, ![1, R, L]⟩ : Shape).Idx) :
    (Rect.unit (s := ⟨3, ![T, R, L]⟩) off (⟨3, ![1, R, L]⟩ : Shape).size inb).emb x = ix3 t (x 1) (x 2) := by
  subst h
  funext a
  apply Fin.ext
  match a with
  | ⟨0, _⟩ =>
    have h0 : (x 0).val = 0 := Nat.lt_one_iff.1 (x 0).isLt
    show t.val + 1 * (x 0).val = t.val
    omega
  | ⟨1, _⟩ => show 0 + 1 * (x 1).val = (x 1).val; omega
  | ⟨2, _⟩ => show 0 + 1 * (x 2).val = (x 2).val; omega

/-- A load of one page of a stack. -/
theorem load_page {T R L : ℕ} {m : Memref sig κ sp ⟨3, ![T, R, L]⟩ e} (hm : m.IsWhole)
    (X : (⟨3, ![T, R, L]⟩ : Shape).Idx → Val e) {off : Fin 3 → ℕ} {t : Fin T} (h : off = ![t.val, 0, 0])
    (inb : ∀ a, off a + (⟨3, ![1, R, L]⟩ : Shape).size a ≤ (⟨3, ![T, R, L]⟩ : Shape).size a) :
    View.readAt Val m.view (Rect.unit (s := ⟨3, ![T, R, L]⟩) off (⟨3, ![1, R, L]⟩ : Shape).size inb).toLoadRect (hm.unread X)
      = page X t := by
  funext x
  exact (hm.readAt_unread X _ x).trans (congrArg X (emb_page h inb x))

/-- A buffer after one store of the whole of it. -/
theorem stored_whole {S : Shape} (v : View sig κ sp S e) (f : v.ty.Contents Val) {off : Fin S.rank → ℕ}
    (h : off = fun _ => 0) (inb : ∀ a, off a + S.size a ≤ S.size a) (w : S.Idx → Val e) :
    v.read Val (v.writes Val f [⟨Rect.unit off S.size inb, w⟩]) = w := by
  funext y
  refine v.read_writes_apply_of_pieces f w _ (fun p hp x => ?_) y
    ⟨_, List.mem_singleton_self _, View.mem_set_unit_zero h inb y⟩
  obtain rfl := List.mem_singleton.1 hp
  exact congrArg w (emb_whole h inb x).symm

/-- A stack after one store of each page, whatever their order. -/
theorem stored_pages {R : ℕ} (v : View sig κ sp ⟨3, ![32, R, 512]⟩ e) (f : v.ty.Contents Val) (off : Fin 32 → Fin 3 → ℕ)
    (h : ∀ t, off t = ![t.val, 0, 0])
    (inb : ∀ t a, off t a + (⟨3, ![1, R, 512]⟩ : Shape).size a ≤ (⟨3, ![32, R, 512]⟩ : Shape).size a)
    (Y : Fin 32 → (Mx R 512).Idx → Val e) (hc : (Mx R 512).ShapeCasts (⟨3, ![1, R, 512]⟩ : Shape)) :
    v.read Val (v.writes Val f (down fun t =>
      ⟨Rect.unit (s := ⟨3, ![32, R, 512]⟩) (off t) (⟨3, ![1, R, 512]⟩ : Shape).size (inb t), shapeCast _ (Y t) hc⟩)) = stack Y := by
  funext y
  refine v.read_writes_apply_of_pieces f (stack Y) _ (fun p hp x => ?_) y
    ⟨_, List.mem_map.2 ⟨y 0, List.mem_reverse.2 (List.mem_finRange _), rfl⟩, ?_⟩
  · obtain ⟨t, -, rfl⟩ := List.mem_map.1 hp
    obtain ⟨u, r, l, rfl⟩ : ∃ u r l, x = ix3 u r l := ⟨_, _, _, eq_ix3 x⟩
    exact (shapeCast_ab_1ab_apply (Y t) hc u r l).trans (congrArg (stack Y) (emb_page (h t) (inb t) (ix3 u r l))).symm
  · refine (Rect.mem_set_unit (inb := inb (y 0))).2 fun a => ?_
    rw [h (y 0)]
    match a with
    | ⟨0, _⟩ => exact ⟨le_rfl, Nat.lt_succ_self _⟩
    | ⟨1, _⟩ => exact ⟨Nat.zero_le _, (Nat.zero_add R).symm ▸ (y 1).isLt⟩
    | ⟨2, _⟩ => exact ⟨Nat.zero_le _, (Nat.zero_add 512).symm ▸ (y 2).isLt⟩

end

end Cert.KernelIdeal.Hand

end
-- ==== Proof.ValA.lean ====
module

public import proofs.«01_k».proof.Proof.RunA
public import proofs.«01_k».proof.Proof.Loads

@[expose] public section

set_option maxRecDepth 16384

noncomputable section

namespace Cert.KernelIdeal.Hand

open Idealize.ShloMosaic Idealize.ShloMosaic.TcCoe
open Cert.KernelIdeal.Gen

variable {F : FTy → Type} [FloatOps F]

theorem k0_off1_at : ∀ i : grid0.Coords, k0_cond1 i = 1#1 → ∀ t : Fin 32, k0_off1 i (BitVec.ofNat 32 t.val) = ![t.val, 0, 0] := by decide +kernel
theorem k0_off2_at : ∀ i : grid0.Coords, k0_cond1 i = 1#1 → ∀ t : Fin 32, k0_off2 i (BitVec.ofNat 32 t.val) = ![t.val, 0, 0] := by decide +kernel

variable (c : Dev nD) (i : grid0.Coords) (arg1 : Memref sig .tc .vmem S32x3x512 .bf16) (harg1 : arg1.IsWhole) (arg2 : Memref sig .tc .vmem S8x256x2048 .bf16) (harg2 : arg2.IsWhole) (arg3 : Memref sig .tc .vmem S256x3 .bf16) (harg3 : arg3.IsWhole) (arg4 : Memref sig .tc .vmem S256x256 .bf16) (harg4 : arg4.IsWhole) (arg5 : Memref sig .tc .vmem S512x256 .bf16) (harg5 : arg5.IsWhole) (arg6 : Memref sig .tc .vmem S1024x512 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x8 .f32) (harg13 : arg13.IsWhole) (arg14 : Memref sig .tc .vmem S32x256x512 .bf16) (harg14 : arg14.IsWhole) (arg15 : Memref sig .tc .vmem S32x512x512 .bf16) (harg15 : arg15.IsWhole) (arg16 : Memref sig .tc .vmem S256x128 .f32) (harg16 : arg16.IsWhole) (arg17 : Memref sig .tc .vmem S256x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S256x128 .bf16) (harg22 : arg22.IsWhole) (arg23 : Memref sig .tc .vmem S256x128 .bf16) (harg23 : arg23.IsWhole) (arg24 : Memref sig .tc .vmem S512x128 .bf16) (harg24 : arg24.IsWhole) (arg25 : Memref sig .tc .vmem S512x128 .bf16) (harg25 : arg25.IsWhole) (arg26 : Memref sig .tc .vmem S1024x8 .f32) (harg26 : arg26.IsWhole)
    (hc : k0_cond1 i = 1#1) (x1 : Vec F S32x3x512 .bf16) (x2 : Vec F S8x256x2048 .bf16) (x3 : Vec F S256x3 .bf16) (x4 : Vec F S256x256 .bf16) (x7 : Vec F S256x1 .f32) (x8 : Vec F S256x1 .f32)

/-- The tiles of this layer over the loads the run makes. -/
abbrev tilesA : Fin 32 → FVec F S256x512 .bf16 :=
  tile0 (View.readAt (Elt F) arg3.view (Rect.unit (s := S256x3) ![0, 0] S256x3.size inb_S256x3_S256x3_0_0).toLoadRect (harg3.unread x3)) (View.readAt (Elt F) arg4.view (Rect.unit (s := S256x256) ![0, 0] S256x256.size inb_S256x256_S256x256_0_0).toLoadRect (harg4.unread x4))
    (fun t => View.readAt (Elt F) arg1.view (Rect.unit (s := S32x3x512) (k0_off1 i (BitVec.ofNat 32 t.val)) S1x3x512.size (k0_off1_inb i hc t)).toLoadRect (harg1.unread x1))
    (fun k => View.readAt (Elt F) arg2.view (ptsRect k).toLoadRect (harg2.unread x2))

theorem tilesA_eq : tilesA i arg1 harg1 arg2 harg2 arg3 harg3 arg4 harg4 hc x1 x2 x3 x4 = tile0 x3 x4 (page x1) (page x2) := by
  unfold tilesA
  rw [load_whole harg3 x3 zero2, load_whole harg4 x4 zero2]
  refine congrArg₂ (tile0 x3 x4) (funext fun t => load_page harg1 x1 (k0_off1_at i hc t) _) (funext fun k => load_page harg2 x2 rfl _)

set_option maxHeartbeats 0 in
theorem runA_14 : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x1 x2 x3 x4 x7 x8).1
    = down fun t => ⟨Rect.unit (s := S32x256x512) (k0_off2 i (BitVec.ofNat 32 t.val)) S1x256x512.size (k0_off2_inb i hc t),
        shapeCast S1x256x512 ((tilesA i arg1 harg1 arg2 harg2 arg3 harg3 arg4 harg4 hc x1 x2 x3 x4) t) shapeCasts_S256x512_S1x256x512⟩ := rfl

set_option maxHeartbeats 0 in
theorem runA_16 : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x1 x2 x3 x4 x7 x8).2.1 = [⟨Rect.unit (s := S256x128) ![0, 0] S256x128.size inb_S256x128_S256x128_0_0, same (total (tilesA i arg1 harg1 arg2 harg2 arg3 harg3 arg4 harg4 hc x1 x2 x3 x4))⟩] := rfl

set_option maxHeartbeats 0 in
theorem runA_17 : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x1 x2 x3 x4 x7 x8).2.2.1 = [⟨Rect.unit (s := S256x128) ![0, 0] S256x128.size inb_S256x128_S256x128_0_0, same (totalsq (tilesA i arg1 harg1 arg2 harg2 arg3 harg3 arg4 harg4 hc x1 x2 x3 x4))⟩] := rfl

set_option maxHeartbeats 0 in
theorem runA_22 : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x1 x2 x3 x4 x7 x8).2.2.2.1
    = [⟨Rect.unit (s := S256x128) ![0, 0] S256x128.size inb_S256x128_S256x128_0_0, lanes (bnscale (View.readAt (Elt F) arg7.view (Rect.unit (s := S256x1) ![0, 0] S256x1.size inb_S256x1_S256x1_0_0).toLoadRect (harg7.unread x7)) (View.readCov (Val := Elt F) arg16.view [⟨Rect.unit (s := S256x128) ![0, 0] S256x128.size inb_S256x128_S256x128_0_0, same (total (tilesA i arg1 harg1 arg2 harg2 arg3 harg3 arg4 harg4 hc x1 x2 x3 x4))⟩] (Rect.unit (s := S256x128) ![0, 0] S256x128.size inb_S256x128_S256x128_0_0).toLoadRect) (View.readCov (Val := Elt F) arg17.view [⟨Rect.unit (s := S256x128) ![0, 0] S256x128.size inb_S256x128_S256x128_0_0, same (totalsq (tilesA i arg1 harg1 arg2 harg2 arg3 harg3 arg4 harg4 hc x1 x2 x3 x4))⟩] (Rect.unit (s := S256x128) ![0, 0] S256x128.size inb_S256x128_S256x128_0_0).toLoadRect))⟩] := rfl

set_option maxHeartbeats 0 in
theorem runA_23 : (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x1 x2 x3 x4 x7 x8).2.2.2.2.1
    = [⟨Rect.unit (s := S256x128) ![0, 0] S256x128.size inb_S256x128_S256x128_0_0, lanes (bnshift (View.readAt (Elt F) arg7.view (Rect.unit (s := S256x1) ![0, 0] S256x1.size inb_S256x1_S256x1_0_0).toLoadRect (harg7.unread x7)) (View.readAt (Elt F) arg8.view (Rect.unit (s := S256x1) ![0, 0] S256x1.size inb_S256x1_S256x1_0_0).toLoadRect (harg8.unread x8)) (View.readCov (Val := Elt F) arg16.view [⟨Rect.unit (s := S256x128) ![0, 0] S256x128.size inb_S256x128_S256x128_0_0, same (total (tilesA i arg1 harg1 arg2 harg2 arg3 harg3 arg4 harg4 hc x1 x2 x3 x4))⟩] (Rect.unit (s := S256x128) ![0, 0] S256x128.size inb_S256x128_S256x128_0_0).toLoadRect) (View.readCov (Val := Elt F) arg17.view [⟨Rect.unit (s := S256x128) ![0, 0] S256x128.size inb_S256x128_S256x128_0_0, same (totalsq (tilesA i arg1 harg1 arg2 harg2 arg3 harg3 arg4 harg4 hc x1 x2 x3 x4))⟩] (Rect.unit (s := S256x128) ![0, 0] S256x128.size inb_S256x128_S256x128_0_0).toLoadRect))⟩] := rfl

theorem readA_14 (f) : arg14.view.read (Elt F) (arg14.view.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x1 x2 x3 x4 x7 x8).1) = stack (tile0 x3 x4 (page x1) (page x2)) := by
  rw [runA_14, tilesA_eq]
  exact stored_pages _ f _ (k0_off2_at i hc) _ _ _

theorem readA_16 (f) : arg16.view.read (Elt F) (arg16.view.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x1 x2 x3 x4 x7 x8).2.1) = total (tile0 x3 x4 (page x1) (page x2)) := by
  rw [runA_16, tilesA_eq, same_eq]
  exact stored_whole _ f zero2 _ _

theorem readA_17 (f) : arg17.view.read (Elt F) (arg17.view.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x1 x2 x3 x4 x7 x8).2.2.1) = totalsq (tile0 x3 x4 (page x1) (page x2)) := by
  rw [runA_17, tilesA_eq, same_eq]
  exact stored_whole _ f zero2 _ _

theorem readA_22 (f) : arg22.view.read (Elt F) (arg22.view.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x1 x2 x3 x4 x7 x8).2.2.2.1)
    = lanes (bnscale x7 (total (tile0 x3 x4 (page x1) (page x2))) (totalsq (tile0 x3 x4 (page x1) (page x2)))) := by
  rw [runA_22, tilesA_eq, same_eq, same_eq, View.readCov_unit_zero _ zero2, View.readCov_unit_zero _ zero2, load_whole harg7 x7 zero2]
  exact stored_whole _ f zero2 _ _

theorem readA_23 (f) : arg23.view.read (Elt F) (arg23.view.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x1 x2 x3 x4 x7 x8).2.2.2.2.1)
    = lanes (bnshift x7 x8 (total (tile0 x3 x4 (page x1) (page x2))) (totalsq (tile0 x3 x4 (page x1) (page x2)))) := by
  rw [runA_23, tilesA_eq, same_eq, same_eq, View.readCov_unit_zero _ zero2, View.readCov_unit_zero _ zero2, load_whole harg7 x7 zero2,
    load_whole harg8 x8 zero2]
  exact stored_whole _ f zero2 _ _

end Cert.KernelIdeal.Hand

end
-- ==== Proof.RunB.lean ====
module

public import proofs.«01_k».proof.Proof.Gen.KernelIdeal.Frame
public import proofs.«01_k».proof.Proof.Gen.KernelIdeal.Skeleton

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

theorem c5_1 : ∀ i : grid0.Coords, k0_cond5 i = 1#1 → ¬ k0_cond1 i = 1#1 := by decide +kernel
theorem c5_9 : ∀ i : grid0.Coords, k0_cond5 i = 1#1 → ¬ k0_cond9 i = 1#1 := by decide +kernel

set_option maxHeartbeats 0 in
/-- The second point's run of the body: the normalised and rectified first layer, the second convolution over all tiles, its statistics and its scale and shift. -/
noncomputable def runB (c : Dev nD) (i : grid0.Coords) (arg1 : Memref sig .tc .vmem S32x3x512 .bf16) (harg1 : arg1.IsWhole) (arg2 : Memref sig .tc .vmem S8x256x2048 .bf16) (harg2 : arg2.IsWhole) (arg3 : Memref sig .tc .vmem S256x3 .bf16) (harg3 : arg3.IsWhole) (arg4 : Memref sig .tc .vmem S256x256 .bf16) (harg4 : arg4.IsWhole) (arg5 : Memref sig .tc .vmem S512x256 .bf16) (harg5 : arg5.IsWhole) (arg6 : Memref sig .tc .vmem S1024x512 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x8 .f32) (harg13 : arg13.IsWhole) (arg14 : Memref sig .tc .vmem S32x256x512 .bf16) (harg14 : arg14.IsWhole) (arg15 : Memref sig .tc .vmem S32x512x512 .bf16) (harg15 : arg15.IsWhole) (arg16 : Memref sig .tc .vmem S256x128 .f32) (harg16 : arg16.IsWhole) (arg17 : Memref sig .tc .vmem S256x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S256x128 .bf16) (harg22 : arg22.IsWhole) (arg23 : Memref sig .tc .vmem S256x128 .bf16) (harg23 : arg23.IsWhole) (arg24 : Memref sig .tc .vmem S512x128 .bf16) (harg24 : arg24.IsWhole) (arg25 : Memref sig .tc .vmem S512x128 .bf16) (harg25 : arg25.IsWhole) (arg26 : Memref sig .tc .vmem S1024x8 .f32) (harg26 : arg26.IsWhole)
    (hc : k0_cond5 i = 1#1)
    (x5 : Vec F S512x256 .bf16) (x9 : Vec F S512x1 .f32) (x10 : Vec F S512x1 .f32) (x14 : Vec F S32x256x512 .bf16) (x22 : Vec F S256x128 .bf16) (x23 : Vec F S256x128 .bf16) :
    Σ' (L15 : List (View.Piece (Elt F) S32x512x512 .bf16)), Σ' (L18 : List (View.Piece (Elt F) S512x128 .f32)), Σ' (L19 : List (View.Piece (Elt F) S512x128 .f32)), Σ' (L24 : List (View.Piece (Elt F) S512x128 .bf16)), { L25 : List (View.Piece (Elt F) S512x128 .bf16) //
      ∀ (E : Set ℕ) (K : PUnit → sProp 𝕄),
        iprop(owns (c : Thread nD τ) arg5 fullShare x5 ∗ owns (c : Thread nD τ) arg9 fullShare x9 ∗ owns (c : Thread nD τ) arg10 fullShare x10 ∗ owns (c : Thread nD τ) arg14 fullShare x14 ∗ owns (c : Thread nD τ) arg22 fullShare x22 ∗ owns (c : Thread nD τ) arg23 fullShare x23 ∗ (∃ d, owns (c : Thread nD τ) arg15 fullShare d) ∗ (∃ d, owns (c : Thread nD τ) arg18 fullShare d) ∗ (∃ d, owns (c : Thread nD τ) arg19 fullShare d) ∗ (∃ d, owns (c : Thread nD τ) arg24 fullShare d) ∗ (∃ d, owns (c : Thread nD τ) arg25 fullShare d)
            ∗ (iprop(owns (c : Thread nD τ) arg5 fullShare x5 ∗ owns (c : Thread nD τ) arg9 fullShare x9 ∗ owns (c : Thread nD τ) arg10 fullShare x10 ∗ owns (c : Thread nD τ) arg14 fullShare x14 ∗ owns (c : Thread nD τ) arg22 fullShare x22 ∗ owns (c : Thread nD τ) arg23 fullShare x23
              ∗ (∃ f, arg15.view.loc (c : Thread nD τ) ↦[arg15.view.set]{fullShare} arg15.view.writes (Elt F) f L15)
              ∗ (∃ f, arg18.view.loc (c : Thread nD τ) ↦[arg18.view.set]{fullShare} arg18.view.writes (Elt F) f L18)
              ∗ (∃ f, arg19.view.loc (c : Thread nD τ) ↦[arg19.view.set]{fullShare} arg19.view.writes (Elt F) f L19)
              ∗ (∃ f, arg24.view.loc (c : Thread nD τ) ↦[arg24.view.set]{fullShare} arg24.view.writes (Elt F) f L24)
              ∗ (∃ f, arg25.view.loc (c : Thread nD τ) ↦[arg25.view.set]{fullShare} arg25.view.writes (Elt F) f L25)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, ?_, ?_, ?_, fun E K => ?run⟩
  case run =>
    simp only [cc0__body_eq_skeleton]; unfold cc0__body_skel
    unfold owns
    iintro ⟨⟨%f5, %hf5, H5⟩, ⟨%f9, %hf9, H9⟩, ⟨%f10, %hf10, H10⟩, ⟨%f14, %hf14, H14⟩, ⟨%f22, %hf22, H22⟩, ⟨%f23, %hf23, H23⟩, ⟨%d15, %f15, -, H15⟩, ⟨%d18, %f18, -, H18⟩, ⟨%d19, %f19, -, H19⟩, ⟨%d24, %f24, -, H24⟩, ⟨%d25, %f25, -, H25⟩, Hk⟩
    obtain rfl := harg5.eq_unread hf5
    obtain rfl := harg9.eq_unread hf9
    obtain rfl := harg10.eq_unread hf10
    obtain rfl := harg14.eq_unread hf14
    obtain rfl := harg22.eq_unread hf22
    obtain rfl := harg23.eq_unread hf23
    sl_exec (disch := first | sl_exact hc | sl_exact c5_1 i hc | sl_exact c5_9 i hc | (clear * - i; decide +kernel +revert))
    sl_step
    iapply Hk
    isplitl [H5]
    · iexists _; isplitr; · ipureintro; exact harg5.read_unread _
      iexact H5
    isplitl [H9]
    · iexists _; isplitr; · ipureintro; exact harg9.read_unread _
      iexact H9
    isplitl [H10]
    · iexists _; isplitr; · ipureintro; exact harg10.read_unread _
      iexact H10
    isplitl [H14]
    · iexists _; isplitr; · ipureintro; exact harg14.read_unread _
      iexact H14
    isplitl [H22]
    · iexists _; isplitr; · ipureintro; exact harg22.read_unread _
      iexact H22
    isplitl [H23]
    · iexists _; isplitr; · ipureintro; exact harg23.read_unread _
      iexact H23
    isplitl [H15]; · iexists _; iexact H15
    isplitl [H18]; · iexists _; iexact H18
    isplitl [H19]; · iexists _; iexact H19
    isplitl [H24]; · iexists _; iexact H24
    iexists _; iexact H25

end Cert.KernelIdeal.Hand

end
-- ==== Proof.ValB.lean ====
module

public import proofs.«01_k».proof.Proof.RunB
public import proofs.«01_k».proof.Proof.Loads

@[expose] public section

set_option maxRecDepth 16384

noncomputable section

namespace Cert.KernelIdeal.Hand

open Idealize.ShloMosaic Idealize.ShloMosaic.TcCoe
open Cert.KernelIdeal.Gen

variable {F : FTy → Type} [FloatOps F]

theorem k0_off3_at : ∀ i : grid0.Coords, k0_cond5 i = 1#1 → ∀ t : Fin 32, k0_off3 i (BitVec.ofNat 32 t.val) = ![t.val, 0, 0] := by decide +kernel
theorem k0_off4_at : ∀ i : grid0.Coords, k0_cond5 i = 1#1 → ∀ t : Fin 32, k0_off4 i (BitVec.ofNat 32 t.val) = ![t.val, 0, 0] := by decide +kernel

variable (c : Dev nD) (i : grid0.Coords) (arg1 : Memref sig .tc .vmem S32x3x512 .bf16) (harg1 : arg1.IsWhole) (arg2 : Memref sig .tc .vmem S8x256x2048 .bf16) (harg2 : arg2.IsWhole) (arg3 : Memref sig .tc .vmem S256x3 .bf16) (harg3 : arg3.IsWhole) (arg4 : Memref sig .tc .vmem S256x256 .bf16) (harg4 : arg4.IsWhole) (arg5 : Memref sig .tc .vmem S512x256 .bf16) (harg5 : arg5.IsWhole) (arg6 : Memref sig .tc .vmem S1024x512 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x8 .f32) (harg13 : arg13.IsWhole) (arg14 : Memref sig .tc .vmem S32x256x512 .bf16) (harg14 : arg14.IsWhole) (arg15 : Memref sig .tc .vmem S32x512x512 .bf16) (harg15 : arg15.IsWhole) (arg16 : Memref sig .tc .vmem S256x128 .f32) (harg16 : arg16.IsWhole) (arg17 : Memref sig .tc .vmem S256x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S256x128 .bf16) (harg22 : arg22.IsWhole) (arg23 : Memref sig .tc .vmem S256x128 .bf16) (harg23 : arg23.IsWhole) (arg24 : Memref sig .tc .vmem S512x128 .bf16) (harg24 : arg24.IsWhole) (arg25 : Memref sig .tc .vmem S512x128 .bf16) (harg25 : arg25.IsWhole) (arg26 : Memref sig .tc .vmem S1024x8 .f32) (harg26 : arg26.IsWhole)
    (hc : k0_cond5 i = 1#1) (x5 : Vec F S512x256 .bf16) (x9 : Vec F S512x1 .f32) (x10 : Vec F S512x1 .f32) (x14 : Vec F S32x256x512 .bf16) (x22 : Vec F S256x128 .bf16) (x23 : Vec F S256x128 .bf16)

/-- The tiles of this layer over the loads the run makes. -/
abbrev tilesB : Fin 32 → FVec F S512x512 .bf16 :=
  tile1 (View.readAt (Elt F) arg5.view (Rect.unit (s := S512x256) ![0, 0] S512x256.size inb_S512x256_S512x256_0_0).toLoadRect (harg5.unread x5)) (View.readAt (Elt F) arg22.view (Rect.unit (s := S256x128) ![0, 0] S256x128.size inb_S256x128_S256x128_0_0).toLoadRect (harg22.unread x22)) (View.readAt (Elt F) arg23.view (Rect.unit (s := S256x128) ![0, 0] S256x128.size inb_S256x128_S256x128_0_0).toLoadRect (harg23.unread x23))
    (fun t => View.readAt (Elt F) arg14.view (Rect.unit (s := S32x256x512) (k0_off3 i (BitVec.ofNat 32 t.val)) S1x256x512.size (k0_off3_inb i hc t)).toLoadRect (harg14.unread x14))

theorem tilesB_eq : tilesB i arg5 harg5 arg14 harg14 arg22 harg22 arg23 harg23 hc x5 x14 x22 x23 = tile1 x5 x22 x23 (page x14) := by
  unfold tilesB
  rw [load_whole harg5 x5 zero2, load_whole harg22 x22 zero2, load_whole harg23 x23 zero2]
  exact congrArg (tile1 x5 x22 x23) (funext fun t => load_page harg14 x14 (k0_off3_at i hc t) _)

set_option maxHeartbeats 0 in
theorem runB_15 : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x5 x9 x10 x14 x22 x23).1
    = down fun t => ⟨Rect.unit (s := S32x512x512) (k0_off4 i (BitVec.ofNat 32 t.val)) S1x512x512.size (k0_off4_inb i hc t),
        shapeCast S1x512x512 ((tilesB i arg5 harg5 arg14 harg14 arg22 harg22 arg23 harg23 hc x5 x14 x22 x23) t) shapeCasts_S512x512_S1x512x512⟩ := rfl

set_option maxHeartbeats 0 in
theorem runB_18 : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x5 x9 x10 x14 x22 x23).2.1 = [⟨Rect.unit (s := S512x128) ![0, 0] S512x128.size inb_S512x128_S512x128_0_0, same (total (tilesB i arg5 harg5 arg14 harg14 arg22 harg22 arg23 harg23 hc x5 x14 x22 x23))⟩] := rfl

set_option maxHeartbeats 0 in
theorem runB_19 : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x5 x9 x10 x14 x22 x23).2.2.1 = [⟨Rect.unit (s := S512x128) ![0, 0] S512x128.size inb_S512x128_S512x128_0_0, same (totalsq (tilesB i arg5 harg5 arg14 harg14 arg22 harg22 arg23 harg23 hc x5 x14 x22 x23))⟩] := rfl

set_option maxHeartbeats 0 in
theorem runB_24 : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x5 x9 x10 x14 x22 x23).2.2.2.1
    = [⟨Rect.unit (s := S512x128) ![0, 0] S512x128.size inb_S512x128_S512x128_0_0, lanes (bnscale (View.readAt (Elt F) arg9.view (Rect.unit (s := S512x1) ![0, 0] S512x1.size inb_S512x1_S512x1_0_0).toLoadRect (harg9.unread x9)) (View.readCov (Val := Elt F) arg18.view [⟨Rect.unit (s := S512x128) ![0, 0] S512x128.size inb_S512x128_S512x128_0_0, same (total (tilesB i arg5 harg5 arg14 harg14 arg22 harg22 arg23 harg23 hc x5 x14 x22 x23))⟩] (Rect.unit (s := S512x128) ![0, 0] S512x128.size inb_S512x128_S512x128_0_0).toLoadRect) (View.readCov (Val := Elt F) arg19.view [⟨Rect.unit (s := S512x128) ![0, 0] S512x128.size inb_S512x128_S512x128_0_0, same (totalsq (tilesB i arg5 harg5 arg14 harg14 arg22 harg22 arg23 harg23 hc x5 x14 x22 x23))⟩] (Rect.unit (s := S512x128) ![0, 0] S512x128.size inb_S512x128_S512x128_0_0).toLoadRect))⟩] := rfl

set_option maxHeartbeats 0 in
theorem runB_25 : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x5 x9 x10 x14 x22 x23).2.2.2.2.1
    = [⟨Rect.unit (s := S512x128) ![0, 0] S512x128.size inb_S512x128_S512x128_0_0, lanes (bnshift (View.readAt (Elt F) arg9.view (Rect.unit (s := S512x1) ![0, 0] S512x1.size inb_S512x1_S512x1_0_0).toLoadRect (harg9.unread x9)) (View.readAt (Elt F) arg10.view (Rect.unit (s := S512x1) ![0, 0] S512x1.size inb_S512x1_S512x1_0_0).toLoadRect (harg10.unread x10)) (View.readCov (Val := Elt F) arg18.view [⟨Rect.unit (s := S512x128) ![0, 0] S512x128.size inb_S512x128_S512x128_0_0, same (total (tilesB i arg5 harg5 arg14 harg14 arg22 harg22 arg23 harg23 hc x5 x14 x22 x23))⟩] (Rect.unit (s := S512x128) ![0, 0] S512x128.size inb_S512x128_S512x128_0_0).toLoadRect) (View.readCov (Val := Elt F) arg19.view [⟨Rect.unit (s := S512x128) ![0, 0] S512x128.size inb_S512x128_S512x128_0_0, same (totalsq (tilesB i arg5 harg5 arg14 harg14 arg22 harg22 arg23 harg23 hc x5 x14 x22 x23))⟩] (Rect.unit (s := S512x128) ![0, 0] S512x128.size inb_S512x128_S512x128_0_0).toLoadRect))⟩] := rfl

theorem readB_15 (f) : arg15.view.read (Elt F) (arg15.view.writes (Elt F) f (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x5 x9 x10 x14 x22 x23).1) = stack (tile1 x5 x22 x23 (page x14)) := by
  rw [runB_15, tilesB_eq]
  exact stored_pages _ f _ (k0_off4_at i hc) _ _ _

theorem readB_18 (f) : arg18.view.read (Elt F) (arg18.view.writes (Elt F) f (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x5 x9 x10 x14 x22 x23).2.1) = total (tile1 x5 x22 x23 (page x14)) := by
  rw [runB_18, tilesB_eq, same_eq]
  exact stored_whole _ f zero2 _ _

theorem readB_19 (f) : arg19.view.read (Elt F) (arg19.view.writes (Elt F) f (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x5 x9 x10 x14 x22 x23).2.2.1) = totalsq (tile1 x5 x22 x23 (page x14)) := by
  rw [runB_19, tilesB_eq, same_eq]
  exact stored_whole _ f zero2 _ _

theorem readB_24 (f) : arg24.view.read (Elt F) (arg24.view.writes (Elt F) f (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x5 x9 x10 x14 x22 x23).2.2.2.1)
    = lanes (bnscale x9 (total (tile1 x5 x22 x23 (page x14))) (totalsq (tile1 x5 x22 x23 (page x14)))) := by
  rw [runB_24, tilesB_eq, same_eq, same_eq, View.readCov_unit_zero _ zero2, View.readCov_unit_zero _ zero2, load_whole harg9 x9 zero2]
  exact stored_whole _ f zero2 _ _

theorem readB_25 (f) : arg25.view.read (Elt F) (arg25.view.writes (Elt F) f (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x5 x9 x10 x14 x22 x23).2.2.2.2.1)
    = lanes (bnshift x9 x10 (total (tile1 x5 x22 x23 (page x14))) (totalsq (tile1 x5 x22 x23 (page x14)))) := by
  rw [runB_25, tilesB_eq, same_eq, same_eq, View.readCov_unit_zero _ zero2, View.readCov_unit_zero _ zero2, load_whole harg9 x9 zero2,
    load_whole harg10 x10 zero2]
  exact stored_whole _ f zero2 _ _

end Cert.KernelIdeal.Hand

end
-- ==== Proof.RunC.lean ====
module

public import proofs.«01_k».proof.Proof.Gen.KernelIdeal.Frame
public import proofs.«01_k».proof.Proof.Gen.KernelIdeal.Skeleton

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

theorem c9_1 : ∀ i : grid0.Coords, k0_cond9 i = 1#1 → ¬ k0_cond1 i = 1#1 := by decide +kernel
theorem c9_5 : ∀ i : grid0.Coords, k0_cond9 i = 1#1 → ¬ k0_cond5 i = 1#1 := by decide +kernel

set_option maxHeartbeats 0 in
/-- The third point's run of the body: the normalised and rectified second layer, the third convolution over all tiles, its statistics, its greatest values and the result. -/
noncomputable def runC (c : Dev nD) (i : grid0.Coords) (arg1 : Memref sig .tc .vmem S32x3x512 .bf16) (harg1 : arg1.IsWhole) (arg2 : Memref sig .tc .vmem S8x256x2048 .bf16) (harg2 : arg2.IsWhole) (arg3 : Memref sig .tc .vmem S256x3 .bf16) (harg3 : arg3.IsWhole) (arg4 : Memref sig .tc .vmem S256x256 .bf16) (harg4 : arg4.IsWhole) (arg5 : Memref sig .tc .vmem S512x256 .bf16) (harg5 : arg5.IsWhole) (arg6 : Memref sig .tc .vmem S1024x512 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x8 .f32) (harg13 : arg13.IsWhole) (arg14 : Memref sig .tc .vmem S32x256x512 .bf16) (harg14 : arg14.IsWhole) (arg15 : Memref sig .tc .vmem S32x512x512 .bf16) (harg15 : arg15.IsWhole) (arg16 : Memref sig .tc .vmem S256x128 .f32) (harg16 : arg16.IsWhole) (arg17 : Memref sig .tc .vmem S256x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S256x128 .bf16) (harg22 : arg22.IsWhole) (arg23 : Memref sig .tc .vmem S256x128 .bf16) (harg23 : arg23.IsWhole) (arg24 : Memref sig .tc .vmem S512x128 .bf16) (harg24 : arg24.IsWhole) (arg25 : Memref sig .tc .vmem S512x128 .bf16) (harg25 : arg25.IsWhole) (arg26 : Memref sig .tc .vmem S1024x8 .f32) (harg26 : arg26.IsWhole)
    (hc : k0_cond9 i = 1#1)
    (x6 : Vec F S1024x512 .bf16) (x11 : Vec F S1024x1 .f32) (x12 : Vec F S1024x1 .f32) (x15 : Vec F S32x512x512 .bf16) (x24 : Vec F S512x128 .bf16) (x25 : Vec F S512x128 .bf16) (x26 : Vec F S1024x8 .f32) :
    Σ' (L13 : List (View.Piece (Elt F) S1024x8 .f32)), Σ' (L20 : List (View.Piece (Elt F) S1024x128 .f32)), Σ' (L21 : List (View.Piece (Elt F) S1024x128 .f32)), { L26 : List (View.Piece (Elt F) S1024x8 .f32) //
      ∀ (E : Set ℕ) (K : PUnit → sProp 𝕄),
        iprop(owns (c : Thread nD τ) arg6 fullShare x6 ∗ owns (c : Thread nD τ) arg11 fullShare x11 ∗ owns (c : Thread nD τ) arg12 fullShare x12 ∗ owns (c : Thread nD τ) arg15 fullShare x15 ∗ owns (c : Thread nD τ) arg24 fullShare x24 ∗ owns (c : Thread nD τ) arg25 fullShare x25 ∗ owns (c : Thread nD τ) arg26 fullShare x26 ∗ (∃ d, owns (c : Thread nD τ) arg13 fullShare d) ∗ (∃ d, owns (c : Thread nD τ) arg20 fullShare d) ∗ (∃ d, owns (c : Thread nD τ) arg21 fullShare d)
            ∗ (iprop(owns (c : Thread nD τ) arg6 fullShare x6 ∗ owns (c : Thread nD τ) arg11 fullShare x11 ∗ owns (c : Thread nD τ) arg12 fullShare x12 ∗ owns (c : Thread nD τ) arg15 fullShare x15 ∗ owns (c : Thread nD τ) arg24 fullShare x24 ∗ owns (c : Thread nD τ) arg25 fullShare x25
              ∗ (∃ f, arg13.view.loc (c : Thread nD τ) ↦[arg13.view.set]{fullShare} arg13.view.writes (Elt F) f L13)
              ∗ (∃ f, arg20.view.loc (c : Thread nD τ) ↦[arg20.view.set]{fullShare} arg20.view.writes (Elt F) f L20)
              ∗ (∃ f, arg21.view.loc (c : Thread nD τ) ↦[arg21.view.set]{fullShare} arg21.view.writes (Elt F) f L21)
              ∗ (∃ f, arg26.view.loc (c : Thread nD τ) ↦[arg26.view.set]{fullShare} arg26.view.writes (Elt F) f L26)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, ?_, ?_, fun E K => ?run⟩
  case run =>
    simp only [cc0__body_eq_skeleton]; unfold cc0__body_skel
    unfold owns
    iintro ⟨⟨%f6, %hf6, H6⟩, ⟨%f11, %hf11, H11⟩, ⟨%f12, %hf12, H12⟩, ⟨%f15, %hf15, H15⟩, ⟨%f24, %hf24, H24⟩, ⟨%f25, %hf25, H25⟩, ⟨%f26, %hf26, H26⟩, ⟨%d13, %f13, -, H13⟩, ⟨%d20, %f20, -, H20⟩, ⟨%d21, %f21, -, H21⟩, Hk⟩
    obtain rfl := harg6.eq_unread hf6
    obtain rfl := harg11.eq_unread hf11
    obtain rfl := harg12.eq_unread hf12
    obtain rfl := harg15.eq_unread hf15
    obtain rfl := harg24.eq_unread hf24
    obtain rfl := harg25.eq_unread hf25
    obtain rfl := harg26.eq_unread hf26
    sl_exec (disch := first | sl_exact hc | sl_exact c9_1 i hc | sl_exact c9_5 i hc | (clear * - i; decide +kernel +revert))
    sl_step
    iapply Hk
    isplitl [H6]
    · iexists _; isplitr; · ipureintro; exact harg6.read_unread _
      iexact H6
    isplitl [H11]
    · iexists _; isplitr; · ipureintro; exact harg11.read_unread _
      iexact H11
    isplitl [H12]
    · iexists _; isplitr; · ipureintro; exact harg12.read_unread _
      iexact H12
    isplitl [H15]
    · iexists _; isplitr; · ipureintro; exact harg15.read_unread _
      iexact H15
    isplitl [H24]
    · iexists _; isplitr; · ipureintro; exact harg24.read_unread _
      iexact H24
    isplitl [H25]
    · iexists _; isplitr; · ipureintro; exact harg25.read_unread _
      iexact H25
    isplitl [H13]; · iexists _; iexact H13
    isplitl [H20]; · iexists _; iexact H20
    isplitl [H21]; · iexists _; iexact H21
    iexists _; iexact H26

end Cert.KernelIdeal.Hand

end
-- ==== Proof.ValC.lean ====
module

public import proofs.«01_k».proof.Proof.RunC
public import proofs.«01_k».proof.Proof.Loads

@[expose] public section

set_option maxRecDepth 16384

noncomputable section

namespace Cert.KernelIdeal.Hand

open Idealize.ShloMosaic Idealize.ShloMosaic.TcCoe
open Cert.KernelIdeal.Gen

variable {F : FTy → Type} [FloatOps F]

theorem k0_off5_at : ∀ i : grid0.Coords, k0_cond9 i = 1#1 → ∀ t : Fin 32, k0_off5 i (BitVec.ofNat 32 t.val) = ![t.val, 0, 0] := by decide +kernel

variable (c : Dev nD) (i : grid0.Coords) (arg1 : Memref sig .tc .vmem S32x3x512 .bf16) (harg1 : arg1.IsWhole) (arg2 : Memref sig .tc .vmem S8x256x2048 .bf16) (harg2 : arg2.IsWhole) (arg3 : Memref sig .tc .vmem S256x3 .bf16) (harg3 : arg3.IsWhole) (arg4 : Memref sig .tc .vmem S256x256 .bf16) (harg4 : arg4.IsWhole) (arg5 : Memref sig .tc .vmem S512x256 .bf16) (harg5 : arg5.IsWhole) (arg6 : Memref sig .tc .vmem S1024x512 .bf16) (harg6 : arg6.IsWhole) (arg7 : Memref sig .tc .vmem S256x1 .f32) (harg7 : arg7.IsWhole) (arg8 : Memref sig .tc .vmem S256x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S1024x1 .f32) (harg11 : arg11.IsWhole) (arg12 : Memref sig .tc .vmem S1024x1 .f32) (harg12 : arg12.IsWhole) (arg13 : Memref sig .tc .vmem S1024x8 .f32) (harg13 : arg13.IsWhole) (arg14 : Memref sig .tc .vmem S32x256x512 .bf16) (harg14 : arg14.IsWhole) (arg15 : Memref sig .tc .vmem S32x512x512 .bf16) (harg15 : arg15.IsWhole) (arg16 : Memref sig .tc .vmem S256x128 .f32) (harg16 : arg16.IsWhole) (arg17 : Memref sig .tc .vmem S256x128 .f32) (harg17 : arg17.IsWhole) (arg18 : Memref sig .tc .vmem S512x128 .f32) (harg18 : arg18.IsWhole) (arg19 : Memref sig .tc .vmem S512x128 .f32) (harg19 : arg19.IsWhole) (arg20 : Memref sig .tc .vmem S1024x128 .f32) (harg20 : arg20.IsWhole) (arg21 : Memref sig .tc .vmem S1024x128 .f32) (harg21 : arg21.IsWhole) (arg22 : Memref sig .tc .vmem S256x128 .bf16) (harg22 : arg22.IsWhole) (arg23 : Memref sig .tc .vmem S256x128 .bf16) (harg23 : arg23.IsWhole) (arg24 : Memref sig .tc .vmem S512x128 .bf16) (harg24 : arg24.IsWhole) (arg25 : Memref sig .tc .vmem S512x128 .bf16) (harg25 : arg25.IsWhole) (arg26 : Memref sig .tc .vmem S1024x8 .f32) (harg26 : arg26.IsWhole)
    (hc : k0_cond9 i = 1#1) (x6 : Vec F S1024x512 .bf16) (x11 : Vec F S1024x1 .f32) (x12 : Vec F S1024x1 .f32) (x15 : Vec F S32x512x512 .bf16) (x24 : Vec F S512x128 .bf16) (x25 : Vec F S512x128 .bf16) (x26 : Vec F S1024x8 .f32)

/-- The tiles of this layer over the loads the run makes. -/
abbrev tilesC : Fin 32 → FVec F S1024x512 .bf16 :=
  tile2 (View.readAt (Elt F) arg6.view (Rect.unit (s := S1024x512) ![0, 0] S1024x512.size inb_S1024x512_S1024x512_0_0).toLoadRect (harg6.unread x6)) (View.readAt (Elt F) arg24.view (Rect.unit (s := S512x128) ![0, 0] S512x128.size inb_S512x128_S512x128_0_0).toLoadRect (harg24.unread x24)) (View.readAt (Elt F) arg25.view (Rect.unit (s := S512x128) ![0, 0] S512x128.size inb_S512x128_S512x128_0_0).toLoadRect (harg25.unread x25))
    (fun t => View.readAt (Elt F) arg15.view (Rect.unit (s := S32x512x512) (k0_off5 i (BitVec.ofNat 32 t.val)) S1x512x512.size (k0_off5_inb i hc t)).toLoadRect (harg15.unread x15))

theorem tilesC_eq : tilesC i arg6 harg6 arg15 harg15 arg24 harg24 arg25 harg25 hc x6 x15 x24 x25 = tile2 x6 x24 x25 (page x15) := by
  unfold tilesC
  rw [load_whole harg6 x6 zero2, load_whole harg24 x24 zero2, load_whole harg25 x25 zero2]
  exact congrArg (tile2 x6 x24 x25) (funext fun t => load_page harg15 x15 (k0_off5_at i hc t) _)

set_option maxHeartbeats 0 in
theorem runC_20 : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x6 x11 x12 x15 x24 x25 x26).2.1 = [⟨Rect.unit (s := S1024x128) ![0, 0] S1024x128.size inb_S1024x128_S1024x128_0_0, same (total (tilesC i arg6 harg6 arg15 harg15 arg24 harg24 arg25 harg25 hc x6 x15 x24 x25))⟩] := rfl

set_option maxHeartbeats 0 in
theorem runC_21 : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x6 x11 x12 x15 x24 x25 x26).2.2.1 = [⟨Rect.unit (s := S1024x128) ![0, 0] S1024x128.size inb_S1024x128_S1024x128_0_0, same (totalsq (tilesC i arg6 harg6 arg15 harg15 arg24 harg24 arg25 harg25 hc x6 x15 x24 x25))⟩] := rfl

set_option maxHeartbeats 0 in
theorem runC_26 : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x6 x11 x12 x15 x24 x25 x26).2.2.2.1 = [⟨Rect.unit (s := S1024x8) ![0, 0] S1024x8.size inb_S1024x8_S1024x8_0_0, same (tops (runC.sl.v9 i) (tilesC i arg6 harg6 arg15 harg15 arg24 harg24 arg25 harg25 hc x6 x15 x24 x25) (View.readAt (Elt F) arg26.view (Rect.unit (s := S1024x8) ![0, 0] S1024x8.size inb_S1024x8_S1024x8_0_0).toLoadRect (harg26.unread x26)))⟩] := rfl

set_option maxHeartbeats 0 in
theorem runC_13 : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x6 x11 x12 x15 x24 x25 x26).1
    = [⟨Rect.unit (s := S1024x8) ![0, 0] S1024x8.size inb_S1024x8_S1024x8_0_0, finish (View.readAt (Elt F) arg11.view (Rect.unit (s := S1024x1) ![0, 0] S1024x1.size inb_S1024x1_S1024x1_0_0).toLoadRect (harg11.unread x11)) (View.readAt (Elt F) arg12.view (Rect.unit (s := S1024x1) ![0, 0] S1024x1.size inb_S1024x1_S1024x1_0_0).toLoadRect (harg12.unread x12)) (View.readCov (Val := Elt F) arg20.view [⟨Rect.unit (s := S1024x128) ![0, 0] S1024x128.size inb_S1024x128_S1024x128_0_0, same (total (tilesC i arg6 harg6 arg15 harg15 arg24 harg24 arg25 harg25 hc x6 x15 x24 x25))⟩] (Rect.unit (s := S1024x128) ![0, 0] S1024x128.size inb_S1024x128_S1024x128_0_0).toLoadRect) (View.readCov (Val := Elt F) arg21.view [⟨Rect.unit (s := S1024x128) ![0, 0] S1024x128.size inb_S1024x128_S1024x128_0_0, same (totalsq (tilesC i arg6 harg6 arg15 harg15 arg24 harg24 arg25 harg25 hc x6 x15 x24 x25))⟩] (Rect.unit (s := S1024x128) ![0, 0] S1024x128.size inb_S1024x128_S1024x128_0_0).toLoadRect)
        (View.readCov (Val := Elt F) arg26.view [⟨Rect.unit (s := S1024x8) ![0, 0] S1024x8.size inb_S1024x8_S1024x8_0_0, same (tops (runC.sl.v9 i) (tilesC i arg6 harg6 arg15 harg15 arg24 harg24 arg25 harg25 hc x6 x15 x24 x25) (View.readAt (Elt F) arg26.view (Rect.unit (s := S1024x8) ![0, 0] S1024x8.size inb_S1024x8_S1024x8_0_0).toLoadRect (harg26.unread x26)))⟩] (Rect.unit (s := S1024x8) ![0, 0] S1024x8.size inb_S1024x8_S1024x8_0_0).toLoadRect)⟩] := rfl

theorem readC_20 (f) : arg20.view.read (Elt F) (arg20.view.writes (Elt F) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x6 x11 x12 x15 x24 x25 x26).2.1) = total (tile2 x6 x24 x25 (page x15)) := by
  rw [runC_20, tilesC_eq, same_eq]
  exact stored_whole _ f zero2 _ _

theorem readC_21 (f) : arg21.view.read (Elt F) (arg21.view.writes (Elt F) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x6 x11 x12 x15 x24 x25 x26).2.2.1) = totalsq (tile2 x6 x24 x25 (page x15)) := by
  rw [runC_21, tilesC_eq, same_eq]
  exact stored_whole _ f zero2 _ _

theorem readC_26 (f) : arg26.view.read (Elt F) (arg26.view.writes (Elt F) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x6 x11 x12 x15 x24 x25 x26).2.2.2.1)
    = tops (runC.sl.v9 i) (tile2 x6 x24 x25 (page x15)) x26 := by
  rw [runC_26, tilesC_eq, same_eq, load_whole harg26 x26 zero2]
  exact stored_whole _ f zero2 _ _

theorem readC_13 (f) : arg13.view.read (Elt F) (arg13.view.writes (Elt F) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc x6 x11 x12 x15 x24 x25 x26).1)
    = finish x11 x12 (total (tile2 x6 x24 x25 (page x15))) (totalsq (tile2 x6 x24 x25 (page x15))) (tops (runC.sl.v9 i) (tile2 x6 x24 x25 (page x15)) x26) := by
  rw [runC_13, tilesC_eq, same_eq, same_eq, same_eq, View.readCov_unit_zero _ zero2, View.readCov_unit_zero _ zero2,
    View.readCov_unit_zero _ zero2, load_whole harg26 x26 zero2, load_whole harg11 x11 zero2, load_whole harg12 x12 zero2]
  exact stored_whole _ f zero2 _ _

end Cert.KernelIdeal.Hand

end
-- ==== Proof.Net.lean ====
module

public import proofs.«01_k».proof.Proof.Loads

@[expose] public section

/-! The whole network as a function of its operands, and the greatest values as the kernel collects them. -/

noncomputable section

namespace Cert.KernelIdeal.Hand

open Idealize.ShloMosaic Idealize.ShloMosaic.ValueIdx

variable {F : FTy → Type} [FloatOps F]

/-- Eight columns side by side. -/
def columns (u : Fin 8 → FVec F (Mx 1024 1) .f32) : FVec F (Mx 1024 8) .f32 := fun j => u (j 1) (ix2 (j 0) 0)

/-- A column spread over lanes, at an entry. -/
theorem spread_apply {α : Type} {C n : ℕ} (v : (Mx C 1).Idx → α) (r : Fin C) (l : Fin n) :
    broadcastTo (Mx C n) v (spread_ok C n) (ix2 r l) = v (ix2 r 0) := by
  refine congrArg v (funext fun a => Fin.ext ?_)
  match a with
  | ⟨0, _⟩ =>
    show Fin.val (if h1 : C = 1 then _ else _) = r.val
    have hr := r.isLt
    split
    · show 0 = r.val; omega
    · rfl
  | ⟨1, _⟩ => rfl

theorem putlane_apply (b : BitVec 32) (mx : FVec F (Mx 1024 1) .f32) (acc : FVec F (Mx 1024 8) .f32) (r : Fin 1024) (l : Fin 8) :
    putlane b mx acc (ix2 r l) = if BitVec.ofNat 32 l.val = b then mx (ix2 r 0) else acc (ix2 r l) := by
  unfold putlane
  rw [select_apply, same_eq, spread_apply]
  show Scalar.select (BitVec.ofBool (BitVec.ofNat 32 (0 * 8 + l.val) == b)) _ _ = _
  rw [Nat.zero_mul, Nat.zero_add]
  by_cases h : BitVec.ofNat 32 l.val = b
  · rw [if_pos h, h, beq_self_eq_true]; rfl
  · rw [if_neg h, beq_false_of_ne h]; rfl

/-- Whatever the accumulator held, the eight selections fill its eight lanes. -/
theorem tops_zero (Y : Fin 32 → FVec F (Mx 1024 512) .bf16) (acc : FVec F (Mx 1024 8) .f32) :
    tops 0#32 Y acc = columns (top Y) := by
  funext j
  obtain ⟨r, l, rfl⟩ : ∃ r l, j = ix2 r l := ⟨_, _, eq_ix2 j⟩
  show tops 0#32 Y acc (ix2 r l) = top Y l (ix2 r 0)
  unfold tops
  simp only [putlane_apply]
  fin_cases l <;> rfl

section
variable (x1 : FVec F S32x3x512 .bf16) (x2 : FVec F S8x256x2048 .bf16) (x3 : FVec F S256x3 .bf16) (x4 : FVec F S256x256 .bf16)
  (x5 : FVec F S512x256 .bf16) (x6 : FVec F S1024x512 .bf16) (x7 x8 : FVec F S256x1 .f32) (x9 x10 : FVec F S512x1 .f32)
  (x11 x12 : FVec F S1024x1 .f32)

/-- The first layer's convolution. -/
def net0 : Fin 32 → FVec F S256x512 .bf16 := tile0 x3 x4 (page x1) (page x2)

/-- The first layer's scale. -/
def sc0 : FVec F S256x128 .bf16 := lanes (bnscale x7 (total (net0 x1 x2 x3 x4)) (totalsq (net0 x1 x2 x3 x4)))

/-- The first layer's shift. -/
def sh0 : FVec F S256x128 .bf16 := lanes (bnshift x7 x8 (total (net0 x1 x2 x3 x4)) (totalsq (net0 x1 x2 x3 x4)))

/-- The second layer's convolution. -/
def net1 : Fin 32 → FVec F S512x512 .bf16 :=
  tile1 x5 (sc0 x1 x2 x3 x4 x7) (sh0 x1 x2 x3 x4 x7 x8) (page (stack (net0 x1 x2 x3 x4)))

/-- The second layer's scale. -/
def sc1 : FVec F S512x128 .bf16 :=
  lanes (bnscale x9 (total (net1 x1 x2 x3 x4 x5 x7 x8)) (totalsq (net1 x1 x2 x3 x4 x5 x7 x8)))

/-- The second layer's shift. -/
def sh1 : FVec F S512x128 .bf16 :=
  lanes (bnshift x9 x10 (total (net1 x1 x2 x3 x4 x5 x7 x8)) (totalsq (net1 x1 x2 x3 x4 x5 x7 x8)))

/-- The third layer's convolution. -/
def net2 : Fin 32 → FVec F S1024x512 .bf16 :=
  tile2 x6 (sc1 x1 x2 x3 x4 x5 x7 x8 x9) (sh1 x1 x2 x3 x4 x5 x7 x8 x9 x10) (page (stack (net1 x1 x2 x3 x4 x5 x7 x8)))

/-- The network's result: the greatest pre-activations of each batch, normalised and rectified. -/
def net : FVec F S1024x8 .f32 :=
  finish x11 x12 (total (net2 x1 x2 x3 x4 x5 x6 x7 x8 x9 x10)) (totalsq (net2 x1 x2 x3 x4 x5 x6 x7 x8 x9 x10))
    (columns (top (net2 x1 x2 x3 x4 x5 x6 x7 x8 x9 x10)))

end

end Cert.KernelIdeal.Hand

end
-- ==== Proof.Launched.lean ====
module

public import proofs.«01_k».proof.Proof.ValA
public import proofs.«01_k».proof.Proof.ValB
public import proofs.«01_k».proof.Proof.ValC
public import proofs.«01_k».proof.Proof.Net
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Claim

@[expose] public section

/-! The launch: what the carried buffers hold between the three points, the body's obligation at each of them, and the
run of the whole program. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The three points. -/
abbrev p0 : Fin cfg0.N := ⟨0, by decide⟩
abbrev p1 : Fin cfg0.N := ⟨1, by decide⟩
abbrev p2 : Fin cfg0.N := ⟨2, by decide⟩

theorem at0 : k0_cond1 (grid0.coords p0) = 1#1 := by decide +kernel
theorem at1 : k0_cond5 (grid0.coords p1) = 1#1 := by decide +kernel
theorem at2 : k0_cond9 (grid0.coords p2) = 1#1 := by decide +kernel

/-! ## What the operands and the carried buffers hold -/

/-- Operand 0 as the point that uses it finds it. -/
abbrev X0 (c : Dev nD) : Vec F S32x3x512 .bf16 := iblk m c 0 p0
/-- Operand 1 as the point that uses it finds it. -/
abbrev X1 (c : Dev nD) : Vec F S8x256x2048 .bf16 := iblk m c 1 p0
/-- Operand 2 as the point that uses it finds it. -/
abbrev X2 (c : Dev nD) : Vec F S256x3 .bf16 := iblk m c 2 p0
/-- Operand 3 as the point that uses it finds it. -/
abbrev X3 (c : Dev nD) : Vec F S256x256 .bf16 := iblk m c 3 p0
/-- Operand 4 as the point that uses it finds it. -/
abbrev X4 (c : Dev nD) : Vec F S512x256 .bf16 := iblk m c 4 p1
/-- Operand 5 as the point that uses it finds it. -/
abbrev X5 (c : Dev nD) : Vec F S1024x512 .bf16 := iblk m c 5 p2
/-- Operand 6 as the point that uses it finds it. -/
abbrev X6 (c : Dev nD) : Vec F S256x1 .f32 := iblk m c 6 p0
/-- Operand 7 as the point that uses it finds it. -/
abbrev X7 (c : Dev nD) : Vec F S256x1 .f32 := iblk m c 7 p0
/-- Operand 8 as the point that uses it finds it. -/
abbrev X8 (c : Dev nD) : Vec F S512x1 .f32 := iblk m c 8 p1
/-- Operand 9 as the point that uses it finds it. -/
abbrev X9 (c : Dev nD) : Vec F S512x1 .f32 := iblk m c 9 p1
/-- Operand 10 as the point that uses it finds it. -/
abbrev X10 (c : Dev nD) : Vec F S1024x1 .f32 := iblk m c 10 p2
/-- Operand 11 as the point that uses it finds it. -/
abbrev X11 (c : Dev nD) : Vec F S1024x1 .f32 := iblk m c 11 p2

abbrev N0 (c : Dev nD) := net0 (X0 m c) (X1 m c) (X2 m c) (X3 m c)
abbrev SC0 (c : Dev nD) := sc0 (X0 m c) (X1 m c) (X2 m c) (X3 m c) (X6 m c)
abbrev SH0 (c : Dev nD) := sh0 (X0 m c) (X1 m c) (X2 m c) (X3 m c) (X6 m c) (X7 m c)
abbrev N1 (c : Dev nD) := net1 (X0 m c) (X1 m c) (X2 m c) (X3 m c) (X4 m c) (X6 m c) (X7 m c)
abbrev SC1 (c : Dev nD) := sc1 (X0 m c) (X1 m c) (X2 m c) (X3 m c) (X4 m c) (X6 m c) (X7 m c) (X8 m c)
abbrev SH1 (c : Dev nD) := sh1 (X0 m c) (X1 m c) (X2 m c) (X3 m c) (X4 m c) (X6 m c) (X7 m c) (X8 m c) (X9 m c)
/-- The result block. -/
abbrev OUT (c : Dev nD) : Vec F S1024x8 .f32 := net (X0 m c) (X1 m c) (X2 m c) (X3 m c) (X4 m c) (X5 m c) (X6 m c) (X7 m c) (X8 m c) (X9 m c) (X10 m c) (X11 m c)

abbrev ms0_0 (t : Fin cfg0.N) : Memref sig .tc .vmem S32x3x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x256x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x3 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x1 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1024x1 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1024x8 .f32 := win0_12.stage (cfg0.slots t 12)
abbrev hs0_12 (t : Fin cfg0.N) : (ms0_12 t).IsWhole := hstage0_12 ((cfg0.slots t 12).cast nbuf0_12)
abbrev scM0_0 : Memref sig .tc .vmem S32x256x512 .bf16 := Memref.whole cc0_scratch0
abbrev scM0_1 : Memref sig .tc .vmem S32x512x512 .bf16 := Memref.whole cc0_scratch1
abbrev scM0_2 : Memref sig .tc .vmem S256x128 .f32 := Memref.whole cc0_scratch2
abbrev scM0_3 : Memref sig .tc .vmem S256x128 .f32 := Memref.whole cc0_scratch3
abbrev scM0_4 : Memref sig .tc .vmem S512x128 .f32 := Memref.whole cc0_scratch4
abbrev scM0_5 : Memref sig .tc .vmem S512x128 .f32 := Memref.whole cc0_scratch5
abbrev scM0_6 : Memref sig .tc .vmem S1024x128 .f32 := Memref.whole cc0_scratch6
abbrev scM0_7 : Memref sig .tc .vmem S1024x128 .f32 := Memref.whole cc0_scratch7
abbrev scM0_8 : Memref sig .tc .vmem S256x128 .bf16 := Memref.whole cc0_scratch8
abbrev scM0_9 : Memref sig .tc .vmem S256x128 .bf16 := Memref.whole cc0_scratch9
abbrev scM0_10 : Memref sig .tc .vmem S512x128 .bf16 := Memref.whole cc0_scratch10
abbrev scM0_11 : Memref sig .tc .vmem S512x128 .bf16 := Memref.whole cc0_scratch11
abbrev scM0_12 : Memref sig .tc .vmem S1024x8 .f32 := Memref.whole cc0_scratch12

/-- The carried buffers at anything. -/
theorem PhiA0_eq (c : Dev nD) : (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, scM0_11, scM0_12, owns_whole]; try rfl

/-- The invariant between the points: after the first the first layer and its normalisation, after the second the second
layer and its normalisation. -/
def Phi (c : Dev nD) : ℕ → sProp 𝕄
  | 1 => iprop(iprop(owns (c : Thread nD τ) scM0_0 fullShare (stack (N0 m c)) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ owns (c : Thread nD τ) scM0_8 fullShare (SC0 m c) ∗ owns (c : Thread nD τ) scM0_9 fullShare (SH0 m c) ∗ (∃ d, owns (c : Thread nD τ) scM0_10 fullShare d) ∗ (∃ d, owns (c : Thread nD τ) scM0_11 fullShare d) ∗ (∃ d, owns (c : Thread nD τ) scM0_12 fullShare d)) ∗ (∃ r, prngReg c r))
  | 2 => iprop(iprop((∃ d, owns (c : Thread nD τ) scM0_0 fullShare d) ∗ owns (c : Thread nD τ) scM0_1 fullShare (stack (N1 m c)) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ owns (c : Thread nD τ) scM0_10 fullShare (SC1 m c) ∗ owns (c : Thread nD τ) scM0_11 fullShare (SH1 m c) ∗ (∃ d, owns (c : Thread nD τ) scM0_12 fullShare d)) ∗ (∃ r, prngReg c r))
  | _ => Pipeline.ΦA spec0 c

/-- The proof data of the one pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => OUT m c
  Φ t := Phi m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val := by
  dsimp only [dats]; rfl

theorem Phi_succ (c : Dev nD) (t : Fin cfg0.N) : (dats m 0 c).Φ t.succ = Phi m c (t.val + 1) := by
  dsimp only [dats]; rfl

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem leaves0_0 (c : Dev nD) (t : Fin cfg0.N) :
    (dats m 0 c).leavesExact 0 t = owns (c : Thread nD τ) (ms0_0 t) fullShare (iblk m c 0 t) := by
  unfold Dat.leavesExact; rw [show cfg0.idle 0 (grid0.coords t) = false from rfl, after0_0]
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem leaves0_1 (c : Dev nD) (t : Fin cfg0.N) :
    (dats m 0 c).leavesExact 1 t = owns (c : Thread nD τ) (ms0_1 t) fullShare (iblk m c 1 t) := by
  unfold Dat.leavesExact; rw [show cfg0.idle 1 (grid0.coords t) = false from rfl, after0_1]
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem leaves0_2 (c : Dev nD) (t : Fin cfg0.N) :
    (dats m 0 c).leavesExact 2 t = owns (c : Thread nD τ) (ms0_2 t) fullShare (iblk m c 2 t) := by
  unfold Dat.leavesExact; rw [show cfg0.idle 2 (grid0.coords t) = false from rfl, after0_2]
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem leaves0_3 (c : Dev nD) (t : Fin cfg0.N) :
    (dats m 0 c).leavesExact 3 t = owns (c : Thread nD τ) (ms0_3 t) fullShare (iblk m c 3 t) := by
  unfold Dat.leavesExact; rw [show cfg0.idle 3 (grid0.coords t) = false from rfl, after0_3]
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem leaves0_4 (c : Dev nD) (t : Fin cfg0.N) :
    (dats m 0 c).leavesExact 4 t = owns (c : Thread nD τ) (ms0_4 t) fullShare (iblk m c 4 t) := by
  unfold Dat.leavesExact; rw [show cfg0.idle 4 (grid0.coords t) = false from rfl, after0_4]
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem leaves0_5 (c : Dev nD) (t : Fin cfg0.N) :
    (dats m 0 c).leavesExact 5 t = owns (c : Thread nD τ) (ms0_5 t) fullShare (iblk m c 5 t) := by
  unfold Dat.leavesExact; rw [show cfg0.idle 5 (grid0.coords t) = false from rfl, after0_5]
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem leaves0_6 (c : Dev nD) (t : Fin cfg0.N) :
    (dats m 0 c).leavesExact 6 t = owns (c : Thread nD τ) (ms0_6 t) fullShare (iblk m c 6 t) := by
  unfold Dat.leavesExact; rw [show cfg0.idle 6 (grid0.coords t) = false from rfl, after0_6]
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d
theorem leaves0_7 (c : Dev nD) (t : Fin cfg0.N) :
    (dats m 0 c).leavesExact 7 t = owns (c : Thread nD τ) (ms0_7 t) fullShare (iblk m c 7 t) := by
  unfold Dat.leavesExact; rw [show cfg0.idle 7 (grid0.coords t) = false from rfl, after0_7]
theorem after0_8 (c : Dev nD) (t : Fin cfg0.N) : (dats m 0 c).after 8 t = iblk m c 8 t := by dsimp only [dats]
theorem before0_8 (c : Dev nD) (t : Fin cfg0.N) (d) : (dats m 0 c).before 8 t d = iblk m c 8 t :=
  before0_8_of m (dats m 0 c) (A_eq m c 8) (after0_8 m c) t d
theorem leaves0_8 (c : Dev nD) (t : Fin cfg0.N) :
    (dats m 0 c).leavesExact 8 t = owns (c : Thread nD τ) (ms0_8 t) fullShare (iblk m c 8 t) := by
  unfold Dat.leavesExact; rw [show cfg0.idle 8 (grid0.coords t) = false from rfl, after0_8]
theorem after0_9 (c : Dev nD) (t : Fin cfg0.N) : (dats m 0 c).after 9 t = iblk m c 9 t := by dsimp only [dats]
theorem before0_9 (c : Dev nD) (t : Fin cfg0.N) (d) : (dats m 0 c).before 9 t d = iblk m c 9 t :=
  before0_9_of m (dats m 0 c) (A_eq m c 9) (after0_9 m c) t d
theorem leaves0_9 (c : Dev nD) (t : Fin cfg0.N) :
    (dats m 0 c).leavesExact 9 t = owns (c : Thread nD τ) (ms0_9 t) fullShare (iblk m c 9 t) := by
  unfold Dat.leavesExact; rw [show cfg0.idle 9 (grid0.coords t) = false from rfl, after0_9]
theorem after0_10 (c : Dev nD) (t : Fin cfg0.N) : (dats m 0 c).after 10 t = iblk m c 10 t := by dsimp only [dats]
theorem before0_10 (c : Dev nD) (t : Fin cfg0.N) (d) : (dats m 0 c).before 10 t d = iblk m c 10 t :=
  before0_10_of m (dats m 0 c) (A_eq m c 10) (after0_10 m c) t d
theorem leaves0_10 (c : Dev nD) (t : Fin cfg0.N) :
    (dats m 0 c).leavesExact 10 t = owns (c : Thread nD τ) (ms0_10 t) fullShare (iblk m c 10 t) := by
  unfold Dat.leavesExact; rw [show cfg0.idle 10 (grid0.coords t) = false from rfl, after0_10]
theorem after0_11 (c : Dev nD) (t : Fin cfg0.N) : (dats m 0 c).after 11 t = iblk m c 11 t := by dsimp only [dats]
theorem before0_11 (c : Dev nD) (t : Fin cfg0.N) (d) : (dats m 0 c).before 11 t d = iblk m c 11 t :=
  before0_11_of m (dats m 0 c) (A_eq m c 11) (after0_11 m c) t d
theorem leaves0_11 (c : Dev nD) (t : Fin cfg0.N) :
    (dats m 0 c).leavesExact 11 t = owns (c : Thread nD τ) (ms0_11 t) fullShare (iblk m c 11 t) := by
  unfold Dat.leavesExact; rw [show cfg0.idle 11 (grid0.coords t) = false from rfl, after0_11]
theorem after0_12 (c : Dev nD) (t : Fin cfg0.N) : (dats m 0 c).after 12 t = OUT m c := by dsimp only [dats]

theorem idle_early : ∀ t : Fin cfg0.N, t.val < 2 → cfg0.idle 12 (grid0.coords t) = true := by decide +kernel
theorem kept_early : ∀ t : Fin cfg0.N, t.val < 2 → (cfg0.win 12).flush t = false := by decide +kernel
theorem live_last : cfg0.idle 12 (grid0.coords p2) = false := by decide +kernel

/-- A buffer owned at what it reads. -/
theorem owns_of_read {sp : Space} {s : Shape} {e : EltTy} {c : Dev nD} {mr : Memref sig .tc sp s e} {x : s.Idx → Elt F e}
    {f : mr.view.ty.Contents (Elt F)} (h : mr.view.read (Elt F) f = x) :
    (mr.view.loc (c : Thread nD τ) ↦[mr.view.set]{fullShare} f : sProp 𝕄) ⊢ owns (c : Thread nD τ) mr fullShare x := by
  unfold owns
  iintro H
  iexists _; isplitr
  swap; · iexact H
  ipureintro; exact h

/-! ## The body's obligation, point by point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 4800000 in
/-- The first point: the first layer. -/
theorem sound0 (c : Dev nD) :
    bodyPre m c p0 ⊢ wp frame (wpE (defs₀ (F := F)) Variants.none c none) Set.univ (bodyAt0 p0) (fun _ => bodyPost m c p0) := by
  unfold bodyPre bodyPost bodyAt0
  simp only [before0_0, before0_1, before0_2, before0_3, before0_4, before0_5, before0_6, before0_7, before0_8, before0_9, before0_10, before0_11, leaves0_0, leaves0_1, leaves0_2, leaves0_3, leaves0_4, leaves0_5, leaves0_6, leaves0_7, leaves0_8, leaves0_9, leaves0_10, leaves0_11]
  rw [show (dats m 0 c).owesAt () (p0 : Fin cfg0.N).succ = (dats m 0 c).owesAt () (p0 : Fin cfg0.N).castSucc from rfl]
  rw [Phi_castSucc, Phi_succ]
  rw [show Phi m c (p0 : Fin cfg0.N).val = Pipeline.ΦA spec0 c from rfl, PhiA0_eq]
  rw [show Phi m c ((p0 : Fin cfg0.N).val + 1) = iprop(iprop(owns (c : Thread nD τ) scM0_0 fullShare (stack (N0 m c)) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ owns (c : Thread nD τ) scM0_8 fullShare (SC0 m c) ∗ owns (c : Thread nD τ) scM0_9 fullShare (SH0 m c) ∗ (∃ d, owns (c : Thread nD τ) scM0_10 fullShare d) ∗ (∃ d, owns (c : Thread nD τ) scM0_11 fullShare d) ∗ (∃ d, owns (c : Thread nD τ) scM0_12 fullShare d)) ∗ (∃ r, prngReg c r)) from rfl]
  rw [Dat.leavesExact_idle (dats m 0 c) 12 p0 (idle_early p0 (by decide)) (kept_early p0 (by decide))]
  iintro ⟨⟨⟨HS0, HS1, HS2, HS3, HS4, HS5, HS6, HS7, HS8, HS9, HS10, HS11, HS12⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runA c (grid0.coords p0) (ms0_0 p0) (hs0_0 p0) (ms0_1 p0) (hs0_1 p0) (ms0_2 p0) (hs0_2 p0) (ms0_3 p0) (hs0_3 p0) (ms0_4 p0) (hs0_4 p0) (ms0_5 p0) (hs0_5 p0) (ms0_6 p0) (hs0_6 p0) (ms0_7 p0) (hs0_7 p0) (ms0_8 p0) (hs0_8 p0) (ms0_9 p0) (hs0_9 p0) (ms0_10 p0) (hs0_10 p0) (ms0_11 p0) (hs0_11 p0) (ms0_12 p0) (hs0_12 p0) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) at0 (X0 m c) (X1 m c) (X2 m c) (X3 m c) (X6 m c) (X7 m c)).2.2.2.2.2 Set.univ _)
  isplitl [H0]; · iexact H0
  isplitl [H1]; · iexact H1
  isplitl [H2]; · iexact H2
  isplitl [H3]; · iexact H3
  isplitl [H6]; · iexact H6
  isplitl [H7]; · iexact H7
  isplitl [HS0]; · iexact HS0
  isplitl [HS2]; · iexact HS2
  isplitl [HS3]; · iexact HS3
  isplitl [HS8]; · iexact HS8
  isplitl [HS9]; · iexact HS9
  iintro ⟨H0, H1, H2, H3, H6, H7, ⟨%es0, HS0⟩, ⟨%es2, HS2⟩, ⟨%es3, HS3⟩, ⟨%es8, HS8⟩, ⟨%es9, HS9⟩⟩
  isplitl [HS0 HS1 HS2 HS3 HS4 HS5 HS6 HS7 HS8 HS9 HS10 HS11 HS12 Hg]
  · isplitl [HS0 HS1 HS2 HS3 HS4 HS5 HS6 HS7 HS8 HS9 HS10 HS11 HS12]
    · isplitl [HS0]; · iapply (owns_of_read (readA_14 c (grid0.coords p0) (ms0_0 p0) (hs0_0 p0) (ms0_1 p0) (hs0_1 p0) (ms0_2 p0) (hs0_2 p0) (ms0_3 p0) (hs0_3 p0) (ms0_4 p0) (hs0_4 p0) (ms0_5 p0) (hs0_5 p0) (ms0_6 p0) (hs0_6 p0) (ms0_7 p0) (hs0_7 p0) (ms0_8 p0) (hs0_8 p0) (ms0_9 p0) (hs0_9 p0) (ms0_10 p0) (hs0_10 p0) (ms0_11 p0) (hs0_11 p0) (ms0_12 p0) (hs0_12 p0) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) at0 (X0 m c) (X1 m c) (X2 m c) (X3 m c) (X6 m c) (X7 m c) _)); iexact HS0
      isplitl [HS1]; · iexact HS1
      isplitl [HS2]; · iexists _; iapply (owns_of_read rfl); iexact HS2
      isplitl [HS3]; · iexists _; iapply (owns_of_read rfl); iexact HS3
      isplitl [HS4]; · iexact HS4
      isplitl [HS5]; · iexact HS5
      isplitl [HS6]; · iexact HS6
      isplitl [HS7]; · iexact HS7
      isplitl [HS8]; · iapply (owns_of_read (readA_22 c (grid0.coords p0) (ms0_0 p0) (hs0_0 p0) (ms0_1 p0) (hs0_1 p0) (ms0_2 p0) (hs0_2 p0) (ms0_3 p0) (hs0_3 p0) (ms0_4 p0) (hs0_4 p0) (ms0_5 p0) (hs0_5 p0) (ms0_6 p0) (hs0_6 p0) (ms0_7 p0) (hs0_7 p0) (ms0_8 p0) (hs0_8 p0) (ms0_9 p0) (hs0_9 p0) (ms0_10 p0) (hs0_10 p0) (ms0_11 p0) (hs0_11 p0) (ms0_12 p0) (hs0_12 p0) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) at0 (X0 m c) (X1 m c) (X2 m c) (X3 m c) (X6 m c) (X7 m c) _)); iexact HS8
      isplitl [HS9]; · iapply (owns_of_read (readA_23 c (grid0.coords p0) (ms0_0 p0) (hs0_0 p0) (ms0_1 p0) (hs0_1 p0) (ms0_2 p0) (hs0_2 p0) (ms0_3 p0) (hs0_3 p0) (ms0_4 p0) (hs0_4 p0) (ms0_5 p0) (hs0_5 p0) (ms0_6 p0) (hs0_6 p0) (ms0_7 p0) (hs0_7 p0) (ms0_8 p0) (hs0_8 p0) (ms0_9 p0) (hs0_9 p0) (ms0_10 p0) (hs0_10 p0) (ms0_11 p0) (hs0_11 p0) (ms0_12 p0) (hs0_12 p0) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) at0 (X0 m c) (X1 m c) (X2 m c) (X3 m c) (X6 m c) (X7 m c) _)); iexact HS9
      isplitl [HS10]; · iexact HS10
      isplitl [HS11]; · iexact HS11
      iexact HS12
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexists _; iexact H12

set_option maxHeartbeats 4800000 in
/-- The second point: the second layer. -/
theorem sound1 (c : Dev nD) :
    bodyPre m c p1 ⊢ wp frame (wpE (defs₀ (F := F)) Variants.none c none) Set.univ (bodyAt0 p1) (fun _ => bodyPost m c p1) := by
  unfold bodyPre bodyPost bodyAt0
  simp only [before0_0, before0_1, before0_2, before0_3, before0_4, before0_5, before0_6, before0_7, before0_8, before0_9, before0_10, before0_11, leaves0_0, leaves0_1, leaves0_2, leaves0_3, leaves0_4, leaves0_5, leaves0_6, leaves0_7, leaves0_8, leaves0_9, leaves0_10, leaves0_11]
  rw [show (dats m 0 c).owesAt () (p1 : Fin cfg0.N).succ = (dats m 0 c).owesAt () (p1 : Fin cfg0.N).castSucc from rfl]
  rw [Phi_castSucc, Phi_succ]
  rw [show Phi m c (p1 : Fin cfg0.N).val = iprop(iprop(owns (c : Thread nD τ) scM0_0 fullShare (stack (N0 m c)) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ owns (c : Thread nD τ) scM0_8 fullShare (SC0 m c) ∗ owns (c : Thread nD τ) scM0_9 fullShare (SH0 m c) ∗ (∃ d, owns (c : Thread nD τ) scM0_10 fullShare d) ∗ (∃ d, owns (c : Thread nD τ) scM0_11 fullShare d) ∗ (∃ d, owns (c : Thread nD τ) scM0_12 fullShare d)) ∗ (∃ r, prngReg c r)) from rfl]
  rw [show Phi m c ((p1 : Fin cfg0.N).val + 1) = iprop(iprop((∃ d, owns (c : Thread nD τ) scM0_0 fullShare d) ∗ owns (c : Thread nD τ) scM0_1 fullShare (stack (N1 m c)) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ owns (c : Thread nD τ) scM0_10 fullShare (SC1 m c) ∗ owns (c : Thread nD τ) scM0_11 fullShare (SH1 m c) ∗ (∃ d, owns (c : Thread nD τ) scM0_12 fullShare d)) ∗ (∃ r, prngReg c r)) from rfl]
  rw [Dat.leavesExact_idle (dats m 0 c) 12 p1 (idle_early p1 (by decide)) (kept_early p1 (by decide))]
  iintro ⟨⟨⟨HS0, HS1, HS2, HS3, HS4, HS5, HS6, HS7, HS8, HS9, HS10, HS11, HS12⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runB c (grid0.coords p1) (ms0_0 p1) (hs0_0 p1) (ms0_1 p1) (hs0_1 p1) (ms0_2 p1) (hs0_2 p1) (ms0_3 p1) (hs0_3 p1) (ms0_4 p1) (hs0_4 p1) (ms0_5 p1) (hs0_5 p1) (ms0_6 p1) (hs0_6 p1) (ms0_7 p1) (hs0_7 p1) (ms0_8 p1) (hs0_8 p1) (ms0_9 p1) (hs0_9 p1) (ms0_10 p1) (hs0_10 p1) (ms0_11 p1) (hs0_11 p1) (ms0_12 p1) (hs0_12 p1) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) at1 (X4 m c) (X8 m c) (X9 m c) (stack (N0 m c)) (SC0 m c) (SH0 m c)).2.2.2.2.2 Set.univ _)
  isplitl [H4]; · iexact H4
  isplitl [H8]; · iexact H8
  isplitl [H9]; · iexact H9
  isplitl [HS0]; · iexact HS0
  isplitl [HS8]; · iexact HS8
  isplitl [HS9]; · iexact HS9
  isplitl [HS1]; · iexact HS1
  isplitl [HS4]; · iexact HS4
  isplitl [HS5]; · iexact HS5
  isplitl [HS10]; · iexact HS10
  isplitl [HS11]; · iexact HS11
  iintro ⟨H4, H8, H9, HS0, HS8, HS9, ⟨%es1, HS1⟩, ⟨%es4, HS4⟩, ⟨%es5, HS5⟩, ⟨%es10, HS10⟩, ⟨%es11, HS11⟩⟩
  isplitl [HS0 HS1 HS2 HS3 HS4 HS5 HS6 HS7 HS8 HS9 HS10 HS11 HS12 Hg]
  · isplitl [HS0 HS1 HS2 HS3 HS4 HS5 HS6 HS7 HS8 HS9 HS10 HS11 HS12]
    · isplitl [HS0]; · iexists _; iexact HS0
      isplitl [HS1]; · iapply (owns_of_read (readB_15 c (grid0.coords p1) (ms0_0 p1) (hs0_0 p1) (ms0_1 p1) (hs0_1 p1) (ms0_2 p1) (hs0_2 p1) (ms0_3 p1) (hs0_3 p1) (ms0_4 p1) (hs0_4 p1) (ms0_5 p1) (hs0_5 p1) (ms0_6 p1) (hs0_6 p1) (ms0_7 p1) (hs0_7 p1) (ms0_8 p1) (hs0_8 p1) (ms0_9 p1) (hs0_9 p1) (ms0_10 p1) (hs0_10 p1) (ms0_11 p1) (hs0_11 p1) (ms0_12 p1) (hs0_12 p1) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) at1 (X4 m c) (X8 m c) (X9 m c) (stack (N0 m c)) (SC0 m c) (SH0 m c) _)); iexact HS1
      isplitl [HS2]; · iexact HS2
      isplitl [HS3]; · iexact HS3
      isplitl [HS4]; · iexists _; iapply (owns_of_read rfl); iexact HS4
      isplitl [HS5]; · iexists _; iapply (owns_of_read rfl); iexact HS5
      isplitl [HS6]; · iexact HS6
      isplitl [HS7]; · iexact HS7
      isplitl [HS8]; · iexists _; iexact HS8
      isplitl [HS9]; · iexists _; iexact HS9
      isplitl [HS10]; · iapply (owns_of_read (readB_24 c (grid0.coords p1) (ms0_0 p1) (hs0_0 p1) (ms0_1 p1) (hs0_1 p1) (ms0_2 p1) (hs0_2 p1) (ms0_3 p1) (hs0_3 p1) (ms0_4 p1) (hs0_4 p1) (ms0_5 p1) (hs0_5 p1) (ms0_6 p1) (hs0_6 p1) (ms0_7 p1) (hs0_7 p1) (ms0_8 p1) (hs0_8 p1) (ms0_9 p1) (hs0_9 p1) (ms0_10 p1) (hs0_10 p1) (ms0_11 p1) (hs0_11 p1) (ms0_12 p1) (hs0_12 p1) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) at1 (X4 m c) (X8 m c) (X9 m c) (stack (N0 m c)) (SC0 m c) (SH0 m c) _)); iexact HS10
      isplitl [HS11]; · iapply (owns_of_read (readB_25 c (grid0.coords p1) (ms0_0 p1) (hs0_0 p1) (ms0_1 p1) (hs0_1 p1) (ms0_2 p1) (hs0_2 p1) (ms0_3 p1) (hs0_3 p1) (ms0_4 p1) (hs0_4 p1) (ms0_5 p1) (hs0_5 p1) (ms0_6 p1) (hs0_6 p1) (ms0_7 p1) (hs0_7 p1) (ms0_8 p1) (hs0_8 p1) (ms0_9 p1) (hs0_9 p1) (ms0_10 p1) (hs0_10 p1) (ms0_11 p1) (hs0_11 p1) (ms0_12 p1) (hs0_12 p1) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) at1 (X4 m c) (X8 m c) (X9 m c) (stack (N0 m c)) (SC0 m c) (SH0 m c) _)); iexact HS11
      iexact HS12
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexists _; iexact H12

set_option maxHeartbeats 4800000 in
/-- The third point: the third layer and the result. -/
theorem sound2 (c : Dev nD) :
    bodyPre m c p2 ⊢ wp frame (wpE (defs₀ (F := F)) Variants.none c none) Set.univ (bodyAt0 p2) (fun _ => bodyPost m c p2) := by
  unfold bodyPre bodyPost bodyAt0
  simp only [before0_0, before0_1, before0_2, before0_3, before0_4, before0_5, before0_6, before0_7, before0_8, before0_9, before0_10, before0_11, leaves0_0, leaves0_1, leaves0_2, leaves0_3, leaves0_4, leaves0_5, leaves0_6, leaves0_7, leaves0_8, leaves0_9, leaves0_10, leaves0_11]
  rw [show (dats m 0 c).owesAt () (p2 : Fin cfg0.N).succ = (dats m 0 c).owesAt () (p2 : Fin cfg0.N).castSucc from rfl]
  rw [Phi_castSucc, Phi_succ]
  rw [show Phi m c (p2 : Fin cfg0.N).val = iprop(iprop((∃ d, owns (c : Thread nD τ) scM0_0 fullShare d) ∗ owns (c : Thread nD τ) scM0_1 fullShare (stack (N1 m c)) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ owns (c : Thread nD τ) scM0_10 fullShare (SC1 m c) ∗ owns (c : Thread nD τ) scM0_11 fullShare (SH1 m c) ∗ (∃ d, owns (c : Thread nD τ) scM0_12 fullShare d)) ∗ (∃ r, prngReg c r)) from rfl]
  rw [show Phi m c ((p2 : Fin cfg0.N).val + 1) = Pipeline.ΦA spec0 c from rfl, PhiA0_eq]
  rw [show (dats m 0 c).leavesExact 12 p2 = owns (c : Thread nD τ) (ms0_12 p2) fullShare (OUT m c) from by
    unfold Dat.leavesExact; rw [live_last, after0_12]]
  iintro ⟨⟨⟨HS0, HS1, HS2, HS3, HS4, HS5, HS6, HS7, HS8, HS9, HS10, HS11, ⟨%x26, HS12⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply ((runC c (grid0.coords p2) (ms0_0 p2) (hs0_0 p2) (ms0_1 p2) (hs0_1 p2) (ms0_2 p2) (hs0_2 p2) (ms0_3 p2) (hs0_3 p2) (ms0_4 p2) (hs0_4 p2) (ms0_5 p2) (hs0_5 p2) (ms0_6 p2) (hs0_6 p2) (ms0_7 p2) (hs0_7 p2) (ms0_8 p2) (hs0_8 p2) (ms0_9 p2) (hs0_9 p2) (ms0_10 p2) (hs0_10 p2) (ms0_11 p2) (hs0_11 p2) (ms0_12 p2) (hs0_12 p2) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) at2 (X5 m c) (X10 m c) (X11 m c) (stack (N1 m c)) (SC1 m c) (SH1 m c) x26).2.2.2.2 Set.univ _)
  isplitl [H5]; · iexact H5
  isplitl [H10]; · iexact H10
  isplitl [H11]; · iexact H11
  isplitl [HS1]; · iexact HS1
  isplitl [HS10]; · iexact HS10
  isplitl [HS11]; · iexact HS11
  isplitl [HS12]; · iexact HS12
  isplitl [H12]; · iexists _; iexact H12
  isplitl [HS6]; · iexact HS6
  isplitl [HS7]; · iexact HS7
  iintro ⟨H5, H10, H11, HS1, HS10, HS11, ⟨%e12, H12⟩, ⟨%es6, HS6⟩, ⟨%es7, HS7⟩, ⟨%es12, HS12⟩⟩
  isplitl [HS0 HS1 HS2 HS3 HS4 HS5 HS6 HS7 HS8 HS9 HS10 HS11 HS12 Hg]
  · isplitl [HS0 HS1 HS2 HS3 HS4 HS5 HS6 HS7 HS8 HS9 HS10 HS11 HS12]
    · isplitl [HS0]; · iexact HS0
      isplitl [HS1]; · iexists _; iexact HS1
      isplitl [HS2]; · iexact HS2
      isplitl [HS3]; · iexact HS3
      isplitl [HS4]; · iexact HS4
      isplitl [HS5]; · iexact HS5
      isplitl [HS6]; · iexists _; iapply (owns_of_read rfl); iexact HS6
      isplitl [HS7]; · iexists _; iapply (owns_of_read rfl); iexact HS7
      isplitl [HS8]; · iexact HS8
      isplitl [HS9]; · iexact HS9
      isplitl [HS10]; · iexists _; iexact HS10
      isplitl [HS11]; · iexists _; iexact HS11
      iexists _; iapply (owns_of_read rfl); iexact HS12
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iapply (owns_of_read ((readC_13 c (grid0.coords p2) (ms0_0 p2) (hs0_0 p2) (ms0_1 p2) (hs0_1 p2) (ms0_2 p2) (hs0_2 p2) (ms0_3 p2) (hs0_3 p2) (ms0_4 p2) (hs0_4 p2) (ms0_5 p2) (hs0_5 p2) (ms0_6 p2) (hs0_6 p2) (ms0_7 p2) (hs0_7 p2) (ms0_8 p2) (hs0_8 p2) (ms0_9 p2) (hs0_9 p2) (ms0_10 p2) (hs0_10 p2) (ms0_11 p2) (hs0_11 p2) (ms0_12 p2) (hs0_12 p2) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) at2 (X5 m c) (X10 m c) (X11 m c) (stack (N1 m c)) (SC1 m c) (SH1 m c) x26 _).trans (by rw [show runC.sl.v9 (grid0.coords p2) = 0#32 by decide +kernel, tops_zero]; rfl))); iexact H12

theorem sound_body (c : Dev nD) (t : Fin cfg0.N) :
    bodyPre m c t ⊢ wp frame (wpE (defs₀ (F := F)) Variants.none c none) Set.univ (bodyAt0 t) (fun _ => bodyPost m c t) := by
  have h : t = p0 ∨ t = p1 ∨ t = p2 := by
    have hN : t.val < 3 := lt_of_lt_of_eq t.isLt (show cfg0.N = 3 from N_0)
    rcases (by omega : t.val = 0 ∨ t.val = 1 ∨ t.val = 2) with h | h | h
    · exact .inl (Fin.ext h)
    · exact .inr (.inl (Fin.ext h))
    · exact .inr (.inr (Fin.ext h))
  rcases h with rfl | rfl | rfl
  · exact sound0 m c
  · exact sound1 m c
  · exact sound2 m c

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = Pipeline.ΦA spec0 c from rfl]

/-! ## The run -/

set_option backward.isDefEq.respectTransparency.types false in
set_option maxHeartbeats 800000 in
/-- Every weakly fair execution ends, with each array at what the proof data says and every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.Transfer.lean ====
module

public import proofs.«01_k».proof.Defs
public import proofs.«01_k».proof.Proof.Gen.Kernel
public import proofs.«01_k».proof.Proof.Launched
@[expose] public section

/-! The idealization rewrote nothing, so the kernel's program and its ideal reading are one program over any float
instance: the frame proved of the one is the frame of the other. -/

noncomputable section

open Idealize.ShloMosaic Idealize.ShloMosaic.TcCoe Idealize.SL.Sem
namespace Cert.Kernel.Hand
open Cert.Kernel Cert.Kernel.Gen
set_option maxHeartbeats 4000000
set_option maxRecDepth 100000

set_option backward.isDefEq.respectTransparency.types false in
/-- The two bodies are one. -/
theorem body_same (F : FTy → Type) [FloatOps F] : @Cert.Kernel.cc0__body F _ Cert.Kernel.Gen.facts = @Cert.KernelIdeal.cc0__body F _ Cert.KernelIdeal.Gen.facts := rfl

set_option backward.isDefEq.respectTransparency.types false in
/-- The two tables of bodies are one. -/
theorem defs₀_same (F : FTy → Type) [FloatOps F] : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc ?_
  funext l a
  match l, a with
  | 0, (t, s) => rfl

set_option backward.isDefEq.respectTransparency.types false in
/-- The same with the pipeline's own labels. -/
theorem defs_same (F : FTy → Type) [FloatOps F] : @Cert.Kernel.defs F _ Cert.Kernel.Gen.facts = @Cert.KernelIdeal.defs F _ Cert.KernelIdeal.Gen.facts :=
  congrArg (Pipeline.defs (Cert.KernelIdeal.pcfgs (F := F))) (defs₀_same F)

set_option backward.isDefEq.respectTransparency.types false in
/-- The two host programs are one. -/
theorem main_same (F : FTy → Type) [FloatOps F] : @Cert.Kernel.main F _ Cert.Kernel.Gen.facts = @Cert.KernelIdeal.main F _ Cert.KernelIdeal.Gen.facts := rfl

set_option backward.isDefEq.respectTransparency.types false in
/-- The kernel runs; its arguments end unchanged and every counter at zero. -/
theorem frame {F : FTy → Type} [FloatOps F] (m : (ℓ : Loc nD τ sig) → Buf (Elt F) ℓ) (ρ : Dev nD → PrngReg) :
   θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) := by
  have h := Cert.KernelIdeal.Hand.frame (F := F) m ρ
  have e : θ_run (@Cert.Kernel.defs F _ Cert.Kernel.Gen.facts) = θ_run (@Cert.KernelIdeal.defs F _ Cert.KernelIdeal.Gen.facts) :=
    congrArg _ (defs_same F)
  rw [e]
  exact h
end Cert.Kernel.Hand
end

end
-- ==== Proof.Reals.lean ====
module

public import Idealize.ShloMosaic.PureOps.Ideal
import Mathlib.Algebra.BigOperators.Field
import Mathlib.Tactic.Ring
import Mathlib.Tactic.NormNum

@[expose] public section

/-! The network over the real numbers: a 1×1 convolution, the normalisation over batches and points, and what the
normalisation becomes when its scale and its shift are computed first and the convolution's bias is left out. -/

noncomputable section

namespace Cert.Network

open scoped BigOperators

/-- One layer's values: batch, channel, point. -/
abbrev Act (C : ℕ) : Type := Fin 8 → Fin C → Fin 2048 → ℝ

variable {C D : ℕ}

/-- A 1×1 convolution. -/
def mix (w : Fin D → Fin C → ℝ) (x : Act C) : Act D := fun b o n => ∑ c, w o c * x b c n

/-- A bias added to each channel. -/
def biased (y : Act C) (s : Fin C → ℝ) : Act C := fun b c n => y b c n + s c

/-- A channel's sum over batches and points. -/
def sumOf (y : Act C) (c : Fin C) : ℝ := ∑ b, ∑ n, y b c n

/-- A channel's mean. -/
def mean (y : Act C) (c : Fin C) : ℝ := sumOf y c / 16384

/-- The values less their channel's mean. -/
def centred (y : Act C) : Act C := fun b c n => y b c n - mean y c

/-- The squares of the values. -/
def squares (y : Act C) : Act C := fun b c n => y b c n * y b c n

/-- A channel's variance. -/
def variance (y : Act C) (c : Fin C) : ℝ := mean (squares (centred y)) c

theorem sumOf_add (y z : Act C) (c : Fin C) : sumOf (fun b c n => y b c n + z b c n) c = sumOf y c + sumOf z c := by
  simp only [sumOf, Finset.sum_add_distrib]

theorem sumOf_const (s : Fin C → ℝ) (c : Fin C) : sumOf (fun _ c _ => s c) c = 16384 * s c := by
  simp only [sumOf, Finset.sum_const, Finset.card_univ, Fintype.card_fin, nsmul_eq_mul]; push_cast; ring

/-- A bias moves the mean by itself. -/
theorem mean_biased (y : Act C) (s : Fin C → ℝ) (c : Fin C) : mean (biased y s) c = mean y c + s c := by
  unfold mean biased
  rw [sumOf_add y (fun _ c _ => s c) c, sumOf_const]; ring

/-- A bias moves no centred value. -/
theorem centred_biased (y : Act C) (s : Fin C → ℝ) : centred (biased y s) = centred y := by
  funext b c n
  show y b c n + s c - mean (biased y s) c = y b c n - mean y c
  rw [mean_biased]; ring

theorem variance_biased (y : Act C) (s : Fin C → ℝ) (c : Fin C) : variance (biased y s) c = variance y c := by
  unfold variance; rw [centred_biased]

/-- The variance is the mean square less the square of the mean. -/
theorem variance_eq (y : Act C) (c : Fin C) : variance y c = mean (squares y) c - mean y c * mean y c := by
  have e : squares (centred y) = fun b c n => squares y b c n + ((fun b c n => (-2 * mean y c) * y b c n + mean y c * mean y c : Act C) b c n) := by
    funext b c n; simp only [squares, centred]; ring
  have e2 : sumOf (fun b c n => (-2 * mean y c) * y b c n + mean y c * mean y c : Act C) c
      = (-2 * mean y c) * sumOf y c + 16384 * (mean y c * mean y c) := by
    rw [sumOf_add (fun b c n => (-2 * mean y c) * y b c n) (fun _ c _ => mean y c * mean y c) c,
      sumOf_const (fun c => mean y c * mean y c)]
    simp only [sumOf, Finset.mul_sum]
  have e3 : sumOf y c = 16384 * mean y c := by unfold mean; ring
  unfold variance
  unfold mean at *
  rw [e, sumOf_add, e2, e3]; ring

theorem sumOf_nonneg (y : Act C) (h : ∀ b c n, 0 ≤ y b c n) (c : Fin C) : 0 ≤ sumOf y c :=
  Finset.sum_nonneg fun b _ => Finset.sum_nonneg fun n _ => h b c n

theorem variance_nonneg (y : Act C) (c : Fin C) : 0 ≤ variance y c :=
  div_nonneg (sumOf_nonneg _ (fun b c n => mul_self_nonneg _) c) (by norm_num)

/-- The factor of the normalisation: the scale over the standard deviation, `ε` added to the variance. -/
def factor (ε : ℝ) (g : Fin C → ℝ) (y : Act C) (c : Fin C) : ℝ := g c * (Real.sqrt (variance y c + ε))⁻¹

theorem factor_biased (ε : ℝ) (g : Fin C → ℝ) (y : Act C) (s : Fin C → ℝ) (c : Fin C) :
    factor ε g (biased y s) c = factor ε g y c := by
  unfold factor; rw [variance_biased]

/-- A layer's output: normalised and rectified. -/
def layer (ε : ℝ) (g be : Fin C → ℝ) (y : Act C) : Act C :=
  fun b c n => max (y b c n * factor ε g y c + (be c - mean y c * factor ε g y c)) 0

/-- The textbook normalisation of the biased values is the product and shift of the plain ones. -/
theorem normalised (ε : ℝ) (g : Fin C → ℝ) (y : Act C) (s : Fin C → ℝ) (b : Fin 8) (c : Fin C) (n : Fin 2048) :
    centred (biased y s) b c n * (Real.sqrt (variance (biased y s) c + ε))⁻¹ * g c
      = y b c n * factor ε g y c + -(mean y c * factor ε g y c) := by
  rw [centred_biased, variance_biased]
  unfold centred factor; ring

end Cert.Network

end
-- ==== Proof.Layers.lean ====
module

public import proofs.«01_k».proof.Proof.Net
public import proofs.«01_k».proof.Proof.Reals
public import Idealize.ShloMosaic.Lib.MatmulPlain
public import Idealize.ShloMosaic.Lib.IdealHost
import Mathlib.Tactic.NormNum
import Mathlib.Tactic.FinCases

@[expose] public section

/-! The kernel's tile functions over the extended reals, when the tiles hold a layer's real values: each function's entries are the real
network's. -/

noncomputable section

namespace Cert.KernelIdeal.Hand

open Idealize.ShloMosaic Idealize.ShloMosaic.ValueIdx Cert.Network
open scoped BigOperators

/-- The number added to the variances. -/
def eps : ℝ := 10995116 / 2 ^ 40

theorem eps_pos : 0 < eps := by unfold eps; norm_num

theorem word_eps : Ideal.ofBits .f32 0x3727C5AC#32 = ((eps : ℝ) : EReal) := by
  unfold eps
  simp [Ideal.ofBits, Ideal.ieee, -EReal.coe_mul]; norm_num

theorem word_inv : Ideal.ofBits .f32 0x38800000#32 = (((1 : ℝ) / 16384 : ℝ) : EReal) := by
  simp [Ideal.ofBits, Ideal.ieee, -EReal.coe_mul]; norm_num

theorem word_low : Ideal.ofBits .bf16 0xFF80#16 = ⊥ := by
  simp [Ideal.ofBits, Ideal.ieee]

/-- A sum of real numbers is the same among the extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s h ih => rw [Finset.sum_insert h, Finset.sum_insert h, EReal.coe_add, ih]

theorem coe_max (a b : ℝ) : ((max a b : ℝ) : EReal) = max (a : EReal) (b : EReal) :=
  EReal.coe_strictMono.monotone.map_max

/-- The reciprocal square root of a positive number. -/
theorem rsqrt_coe (r : ℝ) (h : 0 < r) : Ideal.rsqrt ((r : ℝ) : EReal) = (((Real.sqrt r)⁻¹ : ℝ) : EReal) := by
  show (if r < 0 then (⊥ : EReal) else if r = 0 then ⊤ else (((Real.sqrt r)⁻¹ : ℝ) : EReal)) = _
  rw [if_neg (not_lt.2 h.le), if_neg h.ne']

/-- The batch of a tile. -/
def bat (t : Fin 32) : Fin 8 := ⟨t.val / 4, by omega⟩

/-- The point of a tile's lane. -/
def spot (t : Fin 32) (l : Fin 512) : Fin 2048 := ⟨512 * (t.val % 4) + l.val, by omega⟩

/-- A lane from its slab and the lane within the slab. -/
def lane (j : Fin 4) (i : Fin 128) : Fin 512 := ⟨128 * j.val + i.val, by omega⟩

variable {C D : ℕ}

/-- The tiles hold the values `y`. -/
def Holds (Y : Fin 32 → FVec Ideal (Mx C 512) .bf16) (y : Act C) : Prop :=
  ∀ t c l, (Y t (ix2 c l) : EReal) = ((y (bat t) c (spot t l) : ℝ) : EReal)

/-- A matrix holds the real numbers `w`. -/
def Reals2 {φ : FTy} (W : FVec Ideal (Mx D C) φ) (w : Fin D → Fin C → ℝ) : Prop :=
  ∀ o c, (W (ix2 o c) : EReal) = ((w o c : ℝ) : EReal)

/-- A column holds the real numbers `v`. -/
def Column {φ : FTy} (V : FVec Ideal (Mx C 1) φ) (v : Fin C → ℝ) : Prop :=
  ∀ c, (V (ix2 c 0) : EReal) = ((v c : ℝ) : EReal)

/-- A matrix product of real entries. -/
theorem product_apply {W : FVec Ideal (Mx D C) .bf16} {w : Fin D → Fin C → ℝ} (hW : Reals2 W w)
    {Z : Fin 32 → FVec Ideal (Mx C 512) .bf16} {z : Act C} (hZ : Holds Z z) (t : Fin 32) (o : Fin D) (l : Fin 512) :
    (matmul (DotDims.plain D C 512) none (same W) (Z t) (constant (Mx D 512) .f32 0x00000000#32) (ix2 o l) : EReal)
      = ((mix w z (bat t) o (spot t l) : ℝ) : EReal) := by
  rw [same_eq]
  refine (Ideal.matmul_plain_apply none W (Z t) _ o l).trans ?_
  rw [constant_apply, Ideal.ofBits_zero_f32, zero_add]
  unfold mix
  rw [coe_sum]
  refine Finset.sum_congr rfl fun c _ => ?_
  rw [EReal.coe_mul, ← hW o c, ← hZ t c l]

theorem conv_holds {W : FVec Ideal (Mx D C) .bf16} {w : Fin D → Fin C → ℝ} (hW : Reals2 W w)
    {Z : Fin 32 → FVec Ideal (Mx C 512) .bf16} {z : Act C} (hZ : Holds Z z) : Holds (fun t => conv W (Z t)) (mix w z) :=
  fun t o l => product_apply hW hZ t o l

theorem conv2_holds {A : ℕ} {V : FVec Ideal (Mx D A) .bf16} {v : Fin D → Fin A → ℝ} (hV : Reals2 V v)
    {W : FVec Ideal (Mx D C) .bf16} {w : Fin D → Fin C → ℝ} (hW : Reals2 W w)
    {X : Fin 32 → FVec Ideal (Mx A 512) .bf16} {x : Act A} (hX : Holds X x)
    {Z : Fin 32 → FVec Ideal (Mx C 512) .bf16} {z : Act C} (hZ : Holds Z z) :
    Holds (fun t => conv2 V W (X t) (Z t)) (fun b o n => mix w z b o n + mix v x b o n) := fun t o l => by
  rw [EReal.coe_add, ← product_apply hW hZ t o l, ← product_apply hV hX t o l]
  rfl

theorem slab_apply {φ : FTy} (y : FVec Ideal (Mx C 512) φ) (j : Fin 4) (c : Fin C) (i : Fin 128) :
    slab y j (ix2 c i) = y (ix2 c (lane j i)) :=
  slice2_axis1_apply (128 * j.val) y (slab_ok C j) c i (lane j i) rfl

/-- A lane's entry after the normalisation and the rectifier. -/
theorem act_apply (sc sh : FVec Ideal (Mx C 128) .bf16) (y : FVec Ideal (Mx C 512) .bf16) (j : Fin 4) (c : Fin C) (i : Fin 128) :
    (act sc sh y j (ix2 c i) : EReal) = max (y (ix2 c (lane j i)) * sc (ix2 c i) + sh (ix2 c i) : EReal) 0 := by
  unfold act
  rw [maximumf_apply, addf_apply, mulf_apply, slab_apply, broadcast_apply]
  show max _ (Ideal.ofBits .bf16 0x0000#16) = _
  rw [Ideal.ofBits_zero_bf16]

/-- Four slabs side by side. -/
theorem glue_apply {α : Type} (f : Fin 4 → (Mx C 128).Idx → α) (j : Fin 4) (c : Fin C) (i : Fin 128)
    (h : Shape.Concatenates ((List.ofFn fun n : Fin 4 => (⟨Mx C 128, f n⟩ : (s : Shape) × (s.Idx → α))).map (·.1)) (Mx C 512) 1) :
    concatenate (Mx C 512) 1 (List.ofFn fun n : Fin 4 => (⟨Mx C 128, f n⟩ : (s : Shape) × (s.Idx → α))) h (ix2 c (lane j i))
      = f j (ix2 c i) := by
  refine concatenate_ofFn_apply (t := Mx C 512) (s₁ := Mx C 128) 1 f h rfl 128 rfl (ix2 c (lane j i)) j ?_ (ix2 c i) ?_ fun b hb => ?_
  · show (128 * j.val + i.val) / 128 = j.val; omega
  · show i.val = (128 * j.val + i.val) % 128; omega
  · match b with
    | ⟨0, _⟩ => rfl
    | ⟨1, _⟩ => exact absurd rfl hb

/-- A rectified tile is its four rectified slabs. -/
theorem bnrelu_slab (sc sh : FVec Ideal (Mx C 128) .bf16) (y : FVec Ideal (Mx C 512) .bf16) (j : Fin 4) (c : Fin C) (i : Fin 128) :
    bnrelu sc sh y (ix2 c (lane j i)) = act sc sh y j (ix2 c i) :=
  glue_apply (act sc sh y) j c i (glue_ok C)

theorem lane_split (l : Fin 512) : ∃ j i, l = lane j i :=
  ⟨⟨l.val / 128, by omega⟩, ⟨l.val % 128, by omega⟩, Fin.ext (by show l.val = 128 * (l.val / 128) + l.val % 128; omega)⟩

theorem bnrelu_holds {sc sh : FVec Ideal (Mx C 128) .bf16} {s h : Fin C → ℝ}
    (hs : ∀ c i, (sc (ix2 c i) : EReal) = ((s c : ℝ) : EReal)) (hh : ∀ c i, (sh (ix2 c i) : EReal) = ((h c : ℝ) : EReal))
    {Y : Fin 32 → FVec Ideal (Mx C 512) .bf16} {y : Act C} (hY : Holds Y y) :
    Holds (fun t => bnrelu sc sh (Y t)) (fun b c n => max (y b c n * s c + h c) 0) := fun t c l => by
  obtain ⟨j, i, rfl⟩ := lane_split l
  show bnrelu sc sh (Y t) (ix2 c (lane j i)) = _
  rw [bnrelu_slab, act_apply, hs, hh, hY t c (lane j i), coe_max, EReal.coe_add, EReal.coe_mul]
  rfl

theorem fold_apply (y : FVec Ideal (Mx C 512) .bf16) (c : Fin C) (i : Fin 128) :
    (fold y (ix2 c i) : EReal) = ∑ j : Fin 4, (y (ix2 c (lane j i)) : EReal) := by
  unfold fold
  rw [extf_apply, addf_apply, addf_apply, addf_apply, slab_apply, slab_apply, slab_apply, slab_apply, Fin.sum_univ_four]

theorem accum_apply {s : Shape} (f : ℕ → FVec Ideal s .f32) (n : ℕ) (i : s.Idx) :
    (accum f n i : EReal) = ∑ k ∈ Finset.range (n + 1), (f k i : EReal) := by
  induction n with
  | zero => rw [Finset.sum_range_one]; rfl
  | succ n ih => rw [Finset.sum_range_succ, ← ih]; rfl

theorem total_apply (Y : Fin 32 → FVec Ideal (Mx C 512) .bf16) (c : Fin C) (i : Fin 128) :
    (total Y (ix2 c i) : EReal) = ∑ t : Fin 32, ∑ j : Fin 4, (Y t (ix2 c (lane j i)) : EReal) := by
  unfold total
  rw [accum_apply, Finset.sum_range]
  refine Finset.sum_congr rfl fun t _ => ?_
  rw [fold_apply, show Fin.ofNat 32 t.val = t from Fin.ext (Nat.mod_eq_of_lt t.isLt)]

theorem lift_row {n : ℕ} (c : Fin C) (l : Fin n) : (rowsum_ok C n).lift (ix1 c) l = ix2 c l := by
  funext a
  match a with
  | ⟨0, _⟩ => rfl
  | ⟨1, _⟩ => rfl

theorem lanemean_apply (s : FVec Ideal (Mx C 128) .f32) (c : Fin C) :
    (lanemean s (ix2 c 0) : EReal) = (∑ l : Fin 128, (s (ix2 c l) : EReal)) * (((1 : ℝ) / 16384 : ℝ) : EReal) := by
  unfold lanemean
  rw [mulf_apply, broadcast_apply, shapeCast_a_a1_apply]
  show _ * Ideal.ofBits .f32 0x38800000#32 = _
  rw [word_inv]
  refine congrArg (· * _) ((Ideal.multiReduction_add_single s _ (rowsum_ok C 128) _ _ (ix1 c)).trans
    (Finset.sum_congr rfl fun l _ => ?_))
  exact congrArg s (lift_row c l)

/-- Lanes of tiles and of slabs, as batches and points. -/
def places : Fin 128 × Fin 32 × Fin 4 ≃ Fin 8 × Fin 2048 where
  toFun p := (bat p.2.1, spot p.2.1 (lane p.2.2 p.1))
  invFun q := (⟨q.2.val % 128, by omega⟩, ⟨4 * q.1.val + q.2.val / 512, by omega⟩, ⟨q.2.val / 128 % 4, by omega⟩)
  left_inv p := by
    obtain ⟨i, t, j⟩ := p
    refine Prod.ext (Fin.ext ?_) (Prod.ext (Fin.ext ?_) (Fin.ext ?_))
    · show (512 * (t.val % 4) + (128 * j.val + i.val)) % 128 = i.val; omega
    · show 4 * (t.val / 4) + (512 * (t.val % 4) + (128 * j.val + i.val)) / 512 = t.val; omega
    · show (512 * (t.val % 4) + (128 * j.val + i.val)) / 128 % 4 = j.val; omega
  right_inv q := by
    obtain ⟨b, n⟩ := q
    refine Prod.ext (Fin.ext ?_) (Fin.ext ?_)
    · show (4 * b.val + n.val / 512) / 4 = b.val; omega
    · show 512 * ((4 * b.val + n.val / 512) % 4) + (128 * (n.val / 128 % 4) + n.val % 128) = n.val; omega

theorem sum_places (f : Fin 8 → Fin 2048 → ℝ) :
    ∑ i : Fin 128, ∑ t : Fin 32, ∑ j : Fin 4, f (bat t) (spot t (lane j i)) = ∑ b, ∑ n, f b n := by
  rw [← Fintype.sum_prod_type' f, ← Equiv.sum_comp places, Fintype.sum_prod_type]
  refine Finset.sum_congr rfl fun i _ => ?_
  rw [Fintype.sum_prod_type]
  rfl

/-- The lane mean of the tiles' sums is the channel's mean. -/
theorem lanemean_total {Y : Fin 32 → FVec Ideal (Mx C 512) .bf16} {y : Act C} (h : Holds Y y) (c : Fin C) :
    (lanemean (total Y) (ix2 c 0) : EReal) = ((mean y c : ℝ) : EReal) := by
  rw [lanemean_apply]
  simp only [total_apply, h _ _ _, ← coe_sum, ← EReal.coe_mul]
  rw [sum_places fun b n => y b c n]
  refine congrArg _ ?_
  unfold mean sumOf
  rw [mul_one_div]

theorem squares_hold {Y : Fin 32 → FVec Ideal (Mx C 512) .bf16} {y : Act C} (h : Holds Y y) :
    Holds (fun t => mulf (Y t) (Y t)) (squares y) := fun t c l => by
  show (Y t (ix2 c l) * Y t (ix2 c l) : EReal) = _
  rw [h t c l, ← EReal.coe_mul]; rfl

theorem lanemean_totalsq {Y : Fin 32 → FVec Ideal (Mx C 512) .bf16} {y : Act C} (h : Holds Y y) (c : Fin C) :
    (lanemean (totalsq Y) (ix2 c 0) : EReal) = ((mean (squares y) c : ℝ) : EReal) :=
  lanemean_total (squares_hold h) c

/-- The scale the kernel computes. -/
theorem bnscale_apply {g : FVec Ideal (Mx C 1) .f32} {gr : Fin C → ℝ} (hg : Column g gr)
    {Y : Fin 32 → FVec Ideal (Mx C 512) .bf16} {y : Act C} (h : Holds Y y) :
    Column (bnscale g (total Y) (totalsq Y)) (factor eps gr y) := fun c => by
  unfold bnscale
  rw [same_eq, mulf_apply, hg c]
  show _ * Ideal.rsqrt _ = _
  rw [addf_apply, maximumf_apply, subf_apply, mulf_apply, lanemean_total h, lanemean_totalsq h, broadcast_apply, broadcast_apply]
  show _ * Ideal.rsqrt (max _ (Ideal.ofBits .f32 0x00000000#32) + Ideal.ofBits .f32 0x3727C5AC#32) = _
  rw [Ideal.ofBits_zero_f32, word_eps, ← EReal.coe_mul, ← EReal.coe_sub, ← variance_eq,
    max_eq_left (EReal.coe_nonneg.2 (variance_nonneg y c)), ← EReal.coe_add,
    rsqrt_coe _ (add_pos_of_nonneg_of_pos (variance_nonneg y c) eps_pos), ← EReal.coe_mul]
  rfl

/-- The shift the kernel computes, whatever the shift parameter. -/
theorem bnshift_apply {g be : FVec Ideal (Mx C 1) .f32} {gr : Fin C → ℝ} (hg : Column g gr)
    {Y : Fin 32 → FVec Ideal (Mx C 512) .bf16} {y : Act C} (h : Holds Y y) (c : Fin C) :
    (bnshift g be (total Y) (totalsq Y) (ix2 c 0) : EReal) = be (ix2 c 0) - ((mean y c * factor eps gr y c : ℝ) : EReal) := by
  unfold bnshift
  rw [same_eq, subf_apply, mulf_apply, lanemean_total h, bnscale_apply hg h c, ← EReal.coe_mul]

theorem lanes_apply (v : FVec Ideal (Mx C 1) .f32) (c : Fin C) (i : Fin 128) : (lanes v (ix2 c i) : EReal) = v (ix2 c 0) := by
  unfold lanes
  rw [same_eq, truncf_apply, addf_apply, spread_apply, broadcast_apply]
  show Ideal.ofBits .f32 0x00000000#32 + _ = _
  rw [Ideal.ofBits_zero_f32, zero_add]

/-- A whole layer on tiles: the normalisation of the tiles' own values, rectified. -/
theorem layer_holds {g be : FVec Ideal (Mx C 1) .f32} {gr br : Fin C → ℝ} (hg : Column g gr) (hb : Column be br)
    {Y : Fin 32 → FVec Ideal (Mx C 512) .bf16} {y : Act C} (h : Holds Y y) :
    Holds (fun t => bnrelu (lanes (bnscale g (total Y) (totalsq Y))) (lanes (bnshift g be (total Y) (totalsq Y))) (Y t))
      (layer eps gr br y) :=
  bnrelu_holds (s := factor eps gr y) (h := fun c => br c - mean y c * factor eps gr y c)
    (fun c i => by rw [lanes_apply, bnscale_apply hg h c])
    (fun c i => by rw [lanes_apply, bnshift_apply hg h c, hb c, ← EReal.coe_sub]) h

end Cert.KernelIdeal.Hand

end
-- ==== Proof.RefReals.lean ====
module

public import proofs.«01_k».proof.Proof.Layers
public import Idealize.ShloMosaic.Lib.IdealHost
public import Idealize.ShloMosaic.Lib.ValueLayout
public import Idealize.ShloMosaic.Lib.Pipeline.Value
import Mathlib.Tactic.FinCases

@[expose] public section

/-! One layer as the reference computes it, over the extended reals: the convolution with its bias, the mean and the
variance over batches and points, the normalisation, and the greatest value over the points. -/

noncomputable section

namespace Cert.ReferenceIdeal.Hand

open Idealize.ShloMosaic Idealize.ShloMosaic.ValueIdx Cert.Network
open Cert.KernelIdeal.Hand (eps eps_pos word_eps coe_sum coe_max Reals2)
open scoped BigOperators

/-- A layer's shape. -/
abbrev T3 (C : ℕ) : Shape := ⟨3, ![8, C, 2048]⟩
/-- One number for each channel, spread over a layer's axes. -/
abbrev U3 (C : ℕ) : Shape := ⟨3, ![1, C, 1]⟩
/-- One number for each channel. -/
abbrev V1 (C : ℕ) : Shape := ⟨1, ![C]⟩
/-- A single number. -/
abbrev Pt : Shape := ⟨0, ![]⟩

variable {C D : ℕ}

/-- The array holds a layer's real values. -/
def Holds3 (x : FVec Ideal (T3 C) .f32) (y : Act C) : Prop := ∀ b c n, (x (ix3 b c n) : EReal) = ((y b c n : ℝ) : EReal)

/-- The shape relations that a layer's operations take. -/
structure Shapes (C : ℕ) : Prop where
  col : (V1 C).BroadcastsInDim (U3 C) ![1]
  spread : (U3 C).BroadcastsInDim (T3 C) ![0, 1, 2]
  one : Pt.BroadcastsInDim (U3 C) ![]
  all : Pt.BroadcastsInDim (T3 C) ![]
  sum : (T3 C).ReducesTo [0, 2] (V1 C)
  pt : 0 < Pt.numel

variable (S : Shapes C)

/-- A channel's number at every batch and point. -/
def channels (v : FVec Ideal (V1 C) .f32) : FVec Ideal (T3 C) .f32 :=
  broadcastInDim (T3 C) ![0, 1, 2] S.spread (broadcastInDim (U3 C) ![1] S.col v)

/-- The channels' means. -/
def means (x : FVec Ideal (T3 C) .f32) : FVec Ideal (U3 C) .f32 :=
  Host.divf (broadcastInDim (U3 C) ![1] S.col (Host.reduceAdd x (constant Pt .f32 0x00000000#32) S.sum S.pt))
    (broadcastInDim (U3 C) ![] S.one (constant Pt .f32 0x46800000#32))

/-- The values less their means. -/
def differences (x : FVec Ideal (T3 C) .f32) : FVec Ideal (T3 C) .f32 :=
  subf x (broadcastInDim (T3 C) ![0, 1, 2] S.spread (means S x))

/-- The normalisation and the rectifier. -/
def normalise (x : FVec Ideal (T3 C) .f32) (g be : FVec Ideal (V1 C) .f32) : FVec Ideal (T3 C) .f32 :=
  maximumf (addf (mulf (Host.divf (differences S x) (broadcastInDim (T3 C) ![0, 1, 2] S.spread
      (Host.sqrt (addf (means S (mulf (differences S x) (differences S x)))
        (broadcastInDim (U3 C) ![] S.one (constant Pt .f32 0x3727C5AC#32)))))) (channels S g)) (channels S be))
    (broadcastInDim (T3 C) ![] S.all (constant Pt .f32 0x00000000#32))

theorem col_apply (v : FVec Ideal (V1 C) .f32) (c : Fin C) : broadcastInDim (U3 C) ![1] S.col v (ix3 0 c 0) = v (ix1 c) :=
  broadcastInDim_apply _ _ _ _ (ix1 c) fun a => match a with
    | ⟨0, _⟩ => by show c.val = if C = 1 then 0 else c.val; split <;> omega

theorem spread_apply (v : FVec Ideal (U3 C) .f32) (b : Fin 8) (c : Fin C) (n : Fin 2048) :
    broadcastInDim (T3 C) ![0, 1, 2] S.spread v (ix3 b c n) = v (ix3 0 c 0) :=
  broadcastInDim_apply _ _ _ _ (ix3 0 c 0) fun a => match a with
    | ⟨0, _⟩ => rfl
    | ⟨1, _⟩ => by show c.val = if C = 1 then 0 else c.val; split <;> omega
    | ⟨2, _⟩ => rfl

theorem channels_apply (v : FVec Ideal (V1 C) .f32) (b : Fin 8) (c : Fin C) (n : Fin 2048) :
    channels S v (ix3 b c n) = v (ix1 c) := (spread_apply S _ b c n).trans (col_apply S v c)

theorem word_count : Ideal.ofBits .f32 0x46800000#32 = ((16384 : ℝ) : EReal) := by
  simp [Ideal.ofBits, Ideal.ieee, -EReal.coe_mul]; norm_num

theorem word_bottom : Ideal.ofBits .f32 0xFF800000#32 = ⊥ := by
  simp [Ideal.ofBits, Ideal.ieee]

/-- The sum over batches and points. -/
theorem sum_apply {x : FVec Ideal (T3 C) .f32} {y : Act C} (h : Holds3 x y) (c : Fin C) :
    (Host.reduceAdd x (constant Pt .f32 0x00000000#32) S.sum S.pt (ix1 c) : EReal) = ((sumOf y c : ℝ) : EReal) := by
  rw [hostReduceAdd_apply]
  show Ideal.ofBits .f32 0x00000000#32 + ∑ i ∈ Finset.univ.filter (fun i => S.sum.drop i = ix1 c), (x i : EReal) = _
  rw [Ideal.ofBits_zero_f32, zero_add]
  have drop1 : ∀ i : (T3 C).Idx, (S.sum.drop i 0 : ℕ) = i 1 := fun i => S.sum.drop_apply_val_of_eq i 0 1 (Nat.one_pos) rfl
  have mem : ∀ i : (T3 C).Idx, S.sum.drop i = ix1 c ↔ i 1 = c := fun i => by
    constructor
    · intro e
      exact Fin.ext ((drop1 i).symm.trans (congrArg (fun j : (V1 C).Idx => (j 0).val) e))
    · intro e
      funext a
      match a with
      | ⟨0, _⟩ => exact Fin.ext ((drop1 i).trans (congrArg Fin.val e))
  have e : ∑ i ∈ Finset.univ.filter (fun i => S.sum.drop i = ix1 c), (x i : EReal)
      = ∑ q : Fin 8 × Fin 2048, ((y q.1 c q.2 : ℝ) : EReal) := by
    refine Finset.sum_bij' (fun i _ => (i 0, i 2)) (fun q _ => ix3 q.1 c q.2) (fun _ _ => Finset.mem_univ _)
      (fun q _ => Finset.mem_filter.2 ⟨Finset.mem_univ _, (mem _).2 rfl⟩) ?_ (fun q _ => rfl) ?_
    · intro i hi
      have hc := (mem i).1 (Finset.mem_filter.1 hi).2
      subst hc
      exact (eq_ix3 i).symm
    · intro i hi
      have hc := (mem i).1 (Finset.mem_filter.1 hi).2
      subst hc
      exact (congrArg x (eq_ix3 i)).trans (h _ _ _)
  rw [e, ← coe_sum, Fintype.sum_prod_type]
  rfl

theorem means_apply {x : FVec Ideal (T3 C) .f32} {y : Act C} (h : Holds3 x y) (c : Fin C) :
    (means S x (ix3 0 c 0) : EReal) = ((mean y c : ℝ) : EReal) := by
  unfold means
  rw [hostDivf_apply, col_apply S, sum_apply S h, broadcastInDim_scalar_apply]
  show Ideal.div _ (Ideal.ofBits .f32 0x46800000#32) = _
  rw [word_count, Ideal.div_coe (by norm_num), ← EReal.coe_mul]
  unfold mean
  rw [mul_one_div]

theorem differences_hold {x : FVec Ideal (T3 C) .f32} {y : Act C} (h : Holds3 x y) : Holds3 (differences S x) (centred y) := fun b c n => by
  unfold differences
  rw [subf_apply, spread_apply S, means_apply S h]
  show (x (ix3 b c n) : EReal) - _ = _
  rw [h b c n, ← EReal.coe_sub]; rfl

theorem squares_hold3 {x : FVec Ideal (T3 C) .f32} {y : Act C} (h : Holds3 x y) : Holds3 (mulf x x) (squares y) := fun b c n => by
  show (x (ix3 b c n) * x (ix3 b c n) : EReal) = _
  rw [h b c n, ← EReal.coe_mul]; rfl

/-- The normalised value of a biased layer, its shift any extended real. -/
theorem normalise_apply {x : FVec Ideal (T3 C) .f32} {y : Act C} {s : Fin C → ℝ} (h : Holds3 x (biased y s))
    {g be : FVec Ideal (V1 C) .f32} {gr : Fin C → ℝ} (hg : ∀ c, (g (ix1 c) : EReal) = ((gr c : ℝ) : EReal))
    {ber : Fin C → EReal} (hb : ∀ c, (be (ix1 c) : EReal) = ber c) (b : Fin 8) (c : Fin C) (n : Fin 2048) :
    (normalise S x g be (ix3 b c n) : EReal)
      = max (((y b c n * factor eps gr y c : ℝ) : EReal) + (ber c - ((mean y c * factor eps gr y c : ℝ) : EReal))) 0 := by
  have hd := differences_hold S h
  have hv := means_apply S (squares_hold3 hd) c
  have pos : 0 < variance (biased y s) c + eps := add_pos_of_nonneg_of_pos (variance_nonneg _ _) eps_pos
  have hs : Ideal.sqrt (((mean (squares (centred (biased y s))) c : ℝ) : EReal) + ((eps : ℝ) : EReal))
      = ((Real.sqrt (variance (biased y s) c + eps) : ℝ) : EReal) := by
    rw [← EReal.coe_add]
    show (if variance (biased y s) c + eps < 0 then (⊥ : EReal) else _) = _
    exact if_neg (not_lt.2 pos.le)
  unfold normalise
  rw [maximumf_apply, addf_apply, mulf_apply, hostDivf_apply, spread_apply S, channels_apply S, channels_apply S, broadcastInDim_scalar_apply]
  show max (Ideal.div (differences S x (ix3 b c n)) (Ideal.sqrt (means S (mulf (differences S x) (differences S x)) (ix3 0 c 0)
    + broadcastInDim (U3 C) ![] S.one (constant (F := Ideal) Pt .f32 0x3727C5AC#32) (ix3 0 c 0))) * g (ix1 c) + be (ix1 c)) (Ideal.ofBits .f32 0x00000000#32) = _
  rw [broadcastInDim_scalar_apply]
  show max (Ideal.div (differences S x (ix3 b c n)) (Ideal.sqrt (means S (mulf (differences S x) (differences S x)) (ix3 0 c 0)
    + Ideal.ofBits .f32 0x3727C5AC#32)) * g (ix1 c) + be (ix1 c)) (Ideal.ofBits .f32 0x00000000#32) = _
  rw [hv, word_eps, hs, hd b c n, hg c, hb c, Ideal.ofBits_zero_f32, Ideal.div_coe (Real.sqrt_pos.2 pos).ne', ← EReal.coe_mul, ← EReal.coe_mul,
    one_div, normalised, EReal.coe_add, EReal.coe_neg, add_assoc, sub_eq_add_neg, add_comm (ber c)]

/-- With a real shift it is the layer's output. -/
theorem normalise_holds {x : FVec Ideal (T3 C) .f32} {y : Act C} {s : Fin C → ℝ} (h : Holds3 x (biased y s))
    {g be : FVec Ideal (V1 C) .f32} {gr ber : Fin C → ℝ} (hg : ∀ c, (g (ix1 c) : EReal) = ((gr c : ℝ) : EReal))
    (hb : ∀ c, (be (ix1 c) : EReal) = ((ber c : ℝ) : EReal)) : Holds3 (normalise S x g be) (layer eps gr ber y) := fun b c n => by
  rw [normalise_apply S h hg hb b c n, ← EReal.coe_sub, ← EReal.coe_add, ← EReal.coe_zero, ← coe_max]
  rfl

/-! ## The convolution -/

/-- The dimension numbers of a 1×1 convolution. -/
def dims3 (C D : ℕ) (wf : DotDims.WF (T3 C) ⟨2, ![D, C]⟩ ⟨3, ![8, 2048, D]⟩ [1] [1] [0, 2] [0] [] []) :
    DotDims (T3 C) ⟨2, ![D, C]⟩ ⟨3, ![8, 2048, D]⟩ where
  lhsContracting := [1]
  rhsContracting := [1]
  lhsNonContracting := [0, 2]
  rhsNonContracting := [0]
  lhsBatch := []
  rhsBatch := []
  wf := wf

/-- The convolution with its bias. -/
def convolve (S : Shapes D) (wf : DotDims.WF (T3 C) ⟨2, ![D, C]⟩ ⟨3, ![8, 2048, D]⟩ [1] [1] [0, 2] [0] [] [])
    (ht : (⟨3, ![8, 2048, D]⟩ : Shape).Transposes [0, 2, 1] (T3 D)) (x : FVec Ideal (T3 C) .f32)
    (W : FVec Ideal ⟨2, ![D, C]⟩ .f32) (s : FVec Ideal (V1 D) .f32) : FVec Ideal (T3 D) .f32 :=
  addf (transpose (T3 D) [0, 2, 1] (Host.dotGeneral (dims3 C D wf) none x W) ht) (channels S s)

theorem convolve_holds (S : Shapes D) (wf : DotDims.WF (T3 C) ⟨2, ![D, C]⟩ ⟨3, ![8, 2048, D]⟩ [1] [1] [0, 2] [0] [] [])
    (ht : (⟨3, ![8, 2048, D]⟩ : Shape).Transposes [0, 2, 1] (T3 D)) {x : FVec Ideal (T3 C) .f32} {z : Act C} (hx : Holds3 x z)
    {W : FVec Ideal ⟨2, ![D, C]⟩ .f32} {w : Fin D → Fin C → ℝ} (hW : ∀ o c, (W (ix2 o c) : EReal) = ((w o c : ℝ) : EReal))
    {s : FVec Ideal (V1 D) .f32} {sr : Fin D → ℝ} (hs : ∀ c, (s (ix1 c) : EReal) = ((sr c : ℝ) : EReal)) :
    Holds3 (convolve S wf ht x W s) (biased (mix w z) sr) := fun b o n => by
  unfold convolve
  rw [addf_apply, channels_apply S, transpose_ix3_021_apply]
  have hr : (dims3 C D wf).contr.rank = 1 := rfl
  have hz : (dims3 C D wf).contr.size ⟨0, by rw [hr]; exact Nat.one_pos⟩ = C := rfl
  have e : (Host.dotGeneral (dims3 C D wf) none x W (ix3 b n o) : EReal) = ((mix w z b o n : ℝ) : EReal) := by
    refine (Ideal.dotGeneral_apply (dims3 C D wf) none .single x W (ix3 b n o)).trans ?_
    rw [← Equiv.sum_comp (contrEquiv1 _ C hr hz).symm]
    unfold mix
    rw [coe_sum]
    refine Finset.sum_congr rfl fun k _ => ?_
    have hk := contrEquiv1_symm_val _ C hr hz k
    have el : (dims3 C D wf).lhsIdx (ix3 b n o) ((contrEquiv1 _ C hr hz).symm k) = ix3 b k n := by
      funext a; apply Fin.ext
      match a with
      | ⟨0, _⟩ => rfl
      | ⟨1, _⟩ => exact hk
      | ⟨2, _⟩ => rfl
    have er : (dims3 C D wf).rhsIdx (ix3 b n o) ((contrEquiv1 _ C hr hz).symm k) = ix2 o k := by
      funext a; apply Fin.ext
      match a with
      | ⟨0, _⟩ => rfl
      | ⟨1, _⟩ => exact hk
    rw [el, er]
    refine (congrArg₂ (fun p q : EReal => p * q) (hx b k n) (hW o k)).trans ?_
    rw [← EReal.coe_mul, mul_comm]
  show (Host.dotGeneral (dims3 C D wf) none x W (ix3 b n o) : EReal) + s (ix1 o) = _
  rw [e, hs o, ← EReal.coe_add]
  rfl

/-! ## The greatest value -/

/-- The maximum over the points is a value that is above all the others. -/
theorem greatest_apply {x : FVec Ideal (T3 C) .f32} (h' : (T3 C).ReducesTo [2] ⟨2, ![8, C]⟩) (h : (T3 C).Reduces [2] ⟨2, ![8, C]⟩)
    (hp : 0 < Pt.numel) (b : Fin 8) (c : Fin C) (n0 : Fin 2048) (hn : ∀ n, (x (ix3 b c n) : EReal) ≤ x (ix3 b c n0)) :
    Host.reduce FloatOps.maximumf x (constant (F := Ideal) Pt .f32 0xFF800000#32) h' hp (ix2 b c) = x (ix3 b c n0) := by
  refine (Host.reduce_eq_fold_single FloatOps.maximumf x _ h' h hp (ix2 b c)).trans ?_
  have e : (x ∘ h.lift (ix2 b c) : Fin 2048 → EReal) = fun n => x (ix3 b c n) := funext fun n => congrArg x (by
    funext a
    match a with
    | ⟨0, _⟩ => rfl
    | ⟨1, _⟩ => rfl
    | ⟨2, _⟩ => rfl)
  refine (congrArg (fun f => Finset.fold max (Ideal.ofBits .f32 0xFF800000#32) f (Finset.univ : Finset (Fin 2048))) e).trans ?_
  rw [word_bottom]
  exact le_antisymm (Finset.sup_le fun n _ => hn n) (Finset.le_sup (f := fun n => (x (ix3 b c n) : EReal)) (Finset.mem_univ n0))

end Cert.ReferenceIdeal.Hand

end
-- ==== Proof.NetReals.lean ====
module

public import proofs.«01_k».proof.Proof.Layers
import Mathlib.Tactic.FinCases

@[expose] public section

/-! The kernel's greatest values and its result over the extended reals, for real operands. -/

noncomputable section

namespace Cert.KernelIdeal.Hand

open Idealize.ShloMosaic Idealize.ShloMosaic.ValueIdx Cert.Network
open scoped BigOperators

variable {C : ℕ}

/-- The extended real `x` is the greatest of channel `c`'s values in batch `b`. -/
def Greatest (y : Act C) (b : Fin 8) (c : Fin C) (x : EReal) : Prop :=
  ∃ n0, x = ((y b c n0 : ℝ) : EReal) ∧ ∀ n, y b c n ≤ y b c n0

theorem slabmax_ge (y : FVec Ideal (Mx C 512) .bf16) (j : Fin 4) (c : Fin C) (i : Fin 128) :
    (y (ix2 c (lane j i)) : EReal) ≤ slabmax y (ix2 c i) := by
  unfold slabmax
  rw [maximumf_apply, maximumf_apply, maximumf_apply, slab_apply, slab_apply, slab_apply, slab_apply]
  fin_cases j
  · exact (le_max_left _ _).trans ((le_max_left _ _).trans (le_max_left _ _))
  · exact (le_max_right _ _).trans ((le_max_left _ _).trans (le_max_left _ _))
  · exact (le_max_right _ _).trans (le_max_left _ _)
  · exact le_max_right _ _

theorem slabmax_is (P : EReal → Prop) (y : FVec Ideal (Mx C 512) .bf16) (c : Fin C) (i : Fin 128)
    (h : ∀ j, P (y (ix2 c (lane j i)))) : P (slabmax y (ix2 c i)) := by
  have step : ∀ a b : EReal, P a → P b → P (max a b) := fun a b ha hb => by
    rcases max_choice a b with e | e <;> rw [e] <;> assumption
  unfold slabmax
  rw [maximumf_apply, maximumf_apply, maximumf_apply, slab_apply, slab_apply, slab_apply, slab_apply]
  exact step _ _ (step _ _ (step _ _ (h 0) (h 1)) (h 2)) (h 3)

/-- Continuing the greatest entries with a tile is their maximum with the tile's own. -/
theorem slabmax'_apply (m : FVec Ideal (Mx C 128) .bf16) (y : FVec Ideal (Mx C 512) .bf16) (i : (Mx C 128).Idx) :
    (slabmax' m y i : EReal) = max (m i : EReal) (slabmax y i) := by
  unfold slabmax' slabmax
  simp only [maximumf_apply, max_assoc]

/-- The greatest of a batch's entries at one lane. -/
theorem batchmax_apply (y0 y1 y2 y3 : FVec Ideal (Mx C 512) .bf16) (i : (Mx C 128).Idx) :
    (batchmax y0 y1 y2 y3 i : EReal) = max (max (max (slabmax y0 i : EReal) (slabmax y1 i)) (slabmax y2 i)) (slabmax y3 i) := by
  unfold batchmax
  rw [slabmax'_apply, slabmax'_apply, slabmax'_apply]

theorem lanemax_apply (m : FVec Ideal (Mx C 128) .bf16) (c : Fin C) :
    (lanemax m (ix2 c 0) : EReal) = Finset.univ.sup fun l : Fin 128 => (m (ix2 c l) : EReal) := by
  unfold lanemax
  rw [extf_apply, shapeCast_a_a1_apply]
  refine (Ideal.multiReduction_maximumf_single m _ (rowsum_ok C 128) _ _ (ix1 c)).trans ?_
  show Finset.fold max (Ideal.ofBits .bf16 0xFF80#16) _ _ = _
  rw [word_low]
  have e : (m ∘ (rowsum_ok C 128).lift (ix1 c) : Fin 128 → EReal) = fun l => m (ix2 c l) :=
    funext fun l => congrArg m (lift_row c l)
  exact congrArg (fun f => Finset.fold max ⊥ f (Finset.univ : Finset (Fin 128))) e

/-- A batch's tile from its number within the batch. -/
def tileOf (b : Fin 8) (k : Fin 4) : Fin 32 := ⟨4 * b.val + k.val, by omega⟩

theorem bat_tileOf (b : Fin 8) (k : Fin 4) : bat (tileOf b k) = b := Fin.ext (by show (4 * b.val + k.val) / 4 = b.val; omega)

theorem spot_split (b : Fin 8) (n : Fin 2048) : ∃ k j i, n = spot (tileOf b k) (lane j i) :=
  ⟨⟨n.val / 512, by omega⟩, ⟨n.val / 128 % 4, by omega⟩, ⟨n.val % 128, by omega⟩, Fin.ext (by
    show n.val = 512 * ((4 * b.val + n.val / 512) % 4) + (128 * (n.val / 128 % 4) + n.val % 128); omega)⟩

/-- The maximum over a batch's tiles, slabs and lanes is the greatest value. -/
theorem top_greatest {Y : Fin 32 → FVec Ideal (Mx 1024 512) .bf16} {y : Act 1024} (h : Holds Y y) (b : Fin 8) (c : Fin 1024) :
    Greatest y b c (top Y b (ix2 c 0)) := by
  have hm : ∀ i : Fin 128, (batchmax (Y ⟨4 * b.val, by omega⟩) (Y ⟨4 * b.val + 1, by omega⟩) (Y ⟨4 * b.val + 2, by omega⟩)
      (Y ⟨4 * b.val + 3, by omega⟩) (ix2 c i) : EReal)
      = max (max (max (slabmax (Y (tileOf b 0)) (ix2 c i) : EReal) (slabmax (Y (tileOf b 1)) (ix2 c i)))
        (slabmax (Y (tileOf b 2)) (ix2 c i))) (slabmax (Y (tileOf b 3)) (ix2 c i)) := fun i => batchmax_apply _ _ _ _ _
  unfold top
  rw [lanemax_apply]
  simp only [hm]
  let P : EReal → Prop := fun x => ∃ n0, x = ((y b c n0 : ℝ) : EReal)
  have step : ∀ a b : EReal, P a → P b → P (max a b) := fun a b ha hb => by
    rcases max_choice a b with e | e <;> rw [e] <;> assumption
  have one : ∀ k i, P (slabmax (Y (tileOf b k)) (ix2 c i)) := fun k i =>
    slabmax_is P _ c i fun j => ⟨_, by rw [h (tileOf b k) c (lane j i), bat_tileOf]⟩
  obtain ⟨i0, -, e0⟩ := Finset.exists_mem_eq_sup (Finset.univ : Finset (Fin 128)) ⟨0, Finset.mem_univ _⟩
    (fun i : Fin 128 => max (max (max (slabmax (Y (tileOf b 0)) (ix2 c i) : EReal) (slabmax (Y (tileOf b 1)) (ix2 c i)))
        (slabmax (Y (tileOf b 2)) (ix2 c i))) (slabmax (Y (tileOf b 3)) (ix2 c i)))
  obtain ⟨n0, en⟩ := step _ _ (step _ _ (step _ _ (one 0 i0) (one 1 i0)) (one 2 i0)) (one 3 i0)
  refine ⟨n0, e0.trans en, fun n => ?_⟩
  obtain ⟨k, j, i, rfl⟩ := spot_split b n
  have le1 : ((y b c (spot (tileOf b k) (lane j i)) : ℝ) : EReal) ≤ slabmax (Y (tileOf b k)) (ix2 c i) := by
    have e := h (tileOf b k) c (lane j i)
    rw [bat_tileOf] at e
    rw [← e]
    exact slabmax_ge _ j c i
  have le2 : (slabmax (Y (tileOf b k)) (ix2 c i) : EReal)
      ≤ max (max (max (slabmax (Y (tileOf b 0)) (ix2 c i) : EReal) (slabmax (Y (tileOf b 1)) (ix2 c i)))
        (slabmax (Y (tileOf b 2)) (ix2 c i))) (slabmax (Y (tileOf b 3)) (ix2 c i)) := by
    fin_cases k
    · exact (le_max_left _ _).trans ((le_max_left _ _).trans (le_max_left _ _))
    · exact (le_max_right _ _).trans ((le_max_left _ _).trans (le_max_left _ _))
    · exact (le_max_right _ _).trans (le_max_left _ _)
    · exact le_max_right _ _
  have le3 := Finset.le_sup (f := fun i : Fin 128 =>
      max (max (max (slabmax (Y (tileOf b 0)) (ix2 c i) : EReal) (slabmax (Y (tileOf b 1)) (ix2 c i)))
        (slabmax (Y (tileOf b 2)) (ix2 c i))) (slabmax (Y (tileOf b 3)) (ix2 c i))) (Finset.mem_univ i)
  exact EReal.coe_le_coe_iff.1 ((le1.trans (le2.trans le3)).trans (e0.trans en).le)

theorem finish_apply (g be : FVec Ideal (Mx C 1) .f32) (s q : FVec Ideal (Mx C 128) .f32) (mx : FVec Ideal (Mx C 8) .f32)
    (c : Fin C) (b : Fin 8) :
    (finish g be s q mx (ix2 c b) : EReal)
      = max (mx (ix2 c b) * bnscale g s q (ix2 c 0) + bnshift g be s q (ix2 c 0) : EReal) 0 := by
  unfold finish
  rw [maximumf_apply, addf_apply, mulf_apply, spread_apply, spread_apply, broadcast_apply]
  show max _ (Ideal.ofBits .f32 0x00000000#32) = _
  rw [Ideal.ofBits_zero_f32]

section
variable {x1 : FVec Ideal S32x3x512 .bf16} {x2 : FVec Ideal S8x256x2048 .bf16} {x3 : FVec Ideal S256x3 .bf16}
  {x4 : FVec Ideal S256x256 .bf16} {x5 : FVec Ideal S512x256 .bf16} {x6 : FVec Ideal S1024x512 .bf16}
  {x7 x8 : FVec Ideal S256x1 .f32} {x9 x10 : FVec Ideal S512x1 .f32} {x11 x12 : FVec Ideal S1024x1 .f32}
  {p : Act 3} {q : Act 256} {u : Fin 256 → Fin 3 → ℝ} {w : Fin 256 → Fin 256 → ℝ} {w1 : Fin 512 → Fin 256 → ℝ}
  {w2 : Fin 1024 → Fin 512 → ℝ} {g0 b0 : Fin 256 → ℝ} {g1 b1 : Fin 512 → ℝ} {g2 : Fin 1024 → ℝ}

/-- The first layer before its normalisation. -/
def pre0 (p : Act 3) (q : Act 256) (u : Fin 256 → Fin 3 → ℝ) (w : Fin 256 → Fin 256 → ℝ) : Act 256 :=
  fun b o n => mix w q b o n + mix u p b o n

theorem net0_holds (h1 : ∀ t a l, (x1 (ix3 t a l) : EReal) = ((p (bat t) a (spot t l) : ℝ) : EReal))
    (h2 : ∀ b c n, (x2 (ix3 b c n) : EReal) = ((q b c n : ℝ) : EReal)) (h3 : Reals2 x3 u) (h4 : Reals2 x4 w) :
    Holds (net0 x1 x2 x3 x4) (pre0 p q u w) := by
  have hX : Holds (C := 3) (fun t => shapeCast S3x512 (page x1 t) Facts₀.shapeCasts_S1x3x512_S3x512) p := fun t a l => by
    exact (shapeCast_1ab_ab_apply _ _ a l).trans (h1 t a l)
  have hZ : Holds (C := 256) (fun t => extractStridedSlice S256x512 ![0, 512 * (t.val % 4)]
      (shapeCast S256x2048 (page x2 (bat t)) Facts₀.shapeCasts_S1x256x2048_S256x2048) (quarter_ok t)) q := fun t c l => by
    refine (slice2_axis1_apply (512 * (t.val % 4)) _ (quarter_ok t) c l (spot t l) rfl).trans ?_
    exact (shapeCast_1ab_ab_apply _ _ c (spot t l)).trans (h2 (bat t) c (spot t l))
  exact conv2_holds h3 h4 hX hZ

/-- **The kernel's result.** Channel `o` of batch `b`: the greatest of the third layer's values before the normalisation, normalised
and rectified. -/
theorem net_apply (h1 : ∀ t a l, (x1 (ix3 t a l) : EReal) = ((p (bat t) a (spot t l) : ℝ) : EReal))
    (h2 : ∀ b c n, (x2 (ix3 b c n) : EReal) = ((q b c n : ℝ) : EReal)) (h3 : Reals2 x3 u) (h4 : Reals2 x4 w)
    (h5 : Reals2 x5 w1) (h6 : Reals2 x6 w2) (h7 : Column x7 g0) (h8 : Column x8 b0) (h9 : Column x9 g1) (h10 : Column x10 b1)
    (h11 : Column x11 g2) (o : Fin 1024) (b : Fin 8) (y0 : Act 256) (e0 : y0 = pre0 p q u w) (y1 : Act 512)
    (e1 : y1 = mix w1 (layer eps g0 b0 y0)) (y2 : Act 1024) (e2 : y2 = mix w2 (layer eps g1 b1 y1)) :
    ∃ n0, (∀ n, y2 b o n ≤ y2 b o n0) ∧ (net x1 x2 x3 x4 x5 x6 x7 x8 x9 x10 x11 x12 (ix2 o b) : EReal)
      = max (((y2 b o n0 * factor eps g2 y2 o : ℝ) : EReal) + (x12 (ix2 o 0) - ((mean y2 o * factor eps g2 y2 o : ℝ) : EReal))) 0 := by
  have H0 : Holds (net0 x1 x2 x3 x4) y0 := e0 ▸ net0_holds h1 h2 h3 h4
  have H1 : Holds (net1 x1 x2 x3 x4 x5 x7 x8) y1 := by
    rw [e1]
    refine conv_holds (Z := fun t => bnrelu (sc0 x1 x2 x3 x4 x7) (sh0 x1 x2 x3 x4 x7 x8)
      (shapeCast S256x512 (page (stack (net0 x1 x2 x3 x4)) t) Facts₀.shapeCasts_S1x256x512_S256x512)) h5 ?_
    simp only [page_stack]
    exact layer_holds h7 h8 H0
  have H2 : Holds (net2 x1 x2 x3 x4 x5 x6 x7 x8 x9 x10) y2 := by
    rw [e2]
    refine conv_holds (Z := fun t => bnrelu (sc1 x1 x2 x3 x4 x5 x7 x8 x9) (sh1 x1 x2 x3 x4 x5 x7 x8 x9 x10)
      (shapeCast S512x512 (page (stack (net1 x1 x2 x3 x4 x5 x7 x8)) t) Facts₀.shapeCasts_S1x512x512_S512x512)) h6 ?_
    simp only [page_stack]
    exact layer_holds h9 h10 H1
  obtain ⟨n0, en, hn⟩ := top_greatest H2 b o
  refine ⟨n0, hn, ?_⟩
  unfold net
  rw [finish_apply, bnscale_apply h11 H2 o, bnshift_apply h11 H2 o]
  show max (top (net2 x1 x2 x3 x4 x5 x6 x7 x8 x9 x10) b (ix2 o 0) * _ + _) 0 = _
  rw [en, ← EReal.coe_mul]

end

end Cert.KernelIdeal.Hand

end
-- ==== Proof.Operands.lean ====
module

public import proofs.«01_k».proof.Proof.Launched
public import proofs.«01_k».proof.Proof.NetReals

@[expose] public section

/-! What the kernel's operands hold of the program's arguments, and what the lines after the kernel make of its result. -/

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window cellOf)
open Cert.KernelIdeal.Gen

variable {F : FTy → Type} [FloatOps F]
variable (m : (ℓ : Loc nD τ sig) → Buf (Elt F) ℓ) (ρ : Dev nD → PrngReg)

/-- Every window's block starts at its array's origin. -/
theorem origin : ∀ (w : Fin cfg0.W) (t : Fin cfg0.N) (a : Fin (cfg0.win w).shape.rank), (cfg0.win w).index t a = 0 := by decide +kernel

/-- So an entry of a block is the array's at the same place. -/
theorem block_emb (w : Fin cfg0.W) (t : Fin cfg0.N) (x : ((cfg0.win w).xblock (cfg0.grid.coords t)).Idx) (a : Fin (cfg0.win w).shape.rank) :
    (((cfg0.win w).rect t).emb x a : Nat) = x a :=
  Window.rect_emb_val_of_index_zero (cfg0.win w) t a (origin w t a) x

theorem X0_eq (c : Dev nD) : X0 m c = V m c main_v3 :=
  funext fun x => (View.read_apply _ _).trans (congrArg (V m c main_v3) (funext fun a => Fin.ext (block_emb 0 p0 x a)))
theorem X1_eq (c : Dev nD) : X1 m c = V m c main_v4 :=
  funext fun x => (View.read_apply _ _).trans (congrArg (V m c main_v4) (funext fun a => Fin.ext (block_emb 1 p0 x a)))
theorem X2_eq (c : Dev nD) : X2 m c = V m c main_v6 :=
  funext fun x => (View.read_apply _ _).trans (congrArg (V m c main_v6) (funext fun a => Fin.ext (block_emb 2 p0 x a)))
theorem X3_eq (c : Dev nD) : X3 m c = V m c main_v8 :=
  funext fun x => (View.read_apply _ _).trans (congrArg (V m c main_v8) (funext fun a => Fin.ext (block_emb 3 p0 x a)))
theorem X4_eq (c : Dev nD) : X4 m c = V m c main_v9 :=
  funext fun x => (View.read_apply _ _).trans (congrArg (V m c main_v9) (funext fun a => Fin.ext (block_emb 4 p1 x a)))
theorem X5_eq (c : Dev nD) : X5 m c = V m c main_v10 :=
  funext fun x => (View.read_apply _ _).trans (congrArg (V m c main_v10) (funext fun a => Fin.ext (block_emb 5 p2 x a)))
theorem X6_eq (c : Dev nD) : X6 m c = V m c main_v11 :=
  funext fun x => (View.read_apply _ _).trans (congrArg (V m c main_v11) (funext fun a => Fin.ext (block_emb 6 p0 x a)))
theorem X7_eq (c : Dev nD) : X7 m c = V m c main_v12 :=
  funext fun x => (View.read_apply _ _).trans (congrArg (V m c main_v12) (funext fun a => Fin.ext (block_emb 7 p0 x a)))
theorem X8_eq (c : Dev nD) : X8 m c = V m c main_v13 :=
  funext fun x => (View.read_apply _ _).trans (congrArg (V m c main_v13) (funext fun a => Fin.ext (block_emb 8 p1 x a)))
theorem X9_eq (c : Dev nD) : X9 m c = V m c main_v14 :=
  funext fun x => (View.read_apply _ _).trans (congrArg (V m c main_v14) (funext fun a => Fin.ext (block_emb 9 p1 x a)))
theorem X10_eq (c : Dev nD) : X10 m c = V m c main_v15 :=
  funext fun x => (View.read_apply _ _).trans (congrArg (V m c main_v15) (funext fun a => Fin.ext (block_emb 10 p2 x a)))
theorem X11_eq (c : Dev nD) : X11 m c = V m c main_v16 :=
  funext fun x => (View.read_apply _ _).trans (congrArg (V m c main_v16) (funext fun a => Fin.ext (block_emb 11 p2 x a)))

set_option maxHeartbeats 1600000 in
/-- The arrays that the kernel reads, as the lines before it leave them. -/
theorem prefixes (c : Dev nD) :
    V m c main_v3 = truncf .bf16 (transpose S32x3x512 [1, 0, 2] (shapeCast S3x32x512 (transpose S3x8x2048 [1, 0, 2]
        (m ((c : Thread nD τ).loc main_arg0)) Facts₀.transposes_S8x3x2048_S3x8x2048_1_0_2) Facts₀.shapeCasts_S3x8x2048_S3x32x512)
        Facts₀.transposes_S3x32x512_S32x3x512_1_0_2) Facts₀.bitsLt_bf16_f32
    ∧ V m c main_v4 = truncf .bf16 (m ((c : Thread nD τ).loc main_arg1)) Facts₀.bitsLt_bf16_f32
    ∧ V m c main_v6 = truncf .bf16 (extractStridedSlice S256x3 ![0, 0] (m ((c : Thread nD τ).loc main_arg2)) Facts₀.slices_S256x259_S256x3_0_0) Facts₀.bitsLt_bf16_f32
    ∧ V m c main_v8 = truncf .bf16 (extractStridedSlice S256x256 ![0, 3] (m ((c : Thread nD τ).loc main_arg2)) Facts₀.slices_S256x259_S256x256_0_3) Facts₀.bitsLt_bf16_f32
    ∧ V m c main_v9 = truncf .bf16 (m ((c : Thread nD τ).loc main_arg6)) Facts₀.bitsLt_bf16_f32
    ∧ V m c main_v10 = truncf .bf16 (m ((c : Thread nD τ).loc main_arg10)) Facts₀.bitsLt_bf16_f32
    ∧ V m c main_v11 = shapeCast S256x1 (m ((c : Thread nD τ).loc main_arg4)) Facts₀.shapeCasts_S256_S256x1
    ∧ V m c main_v12 = shapeCast S256x1 (m ((c : Thread nD τ).loc main_arg5)) Facts₀.shapeCasts_S256_S256x1
    ∧ V m c main_v13 = shapeCast S512x1 (m ((c : Thread nD τ).loc main_arg8)) Facts₀.shapeCasts_S512_S512x1
    ∧ V m c main_v14 = shapeCast S512x1 (m ((c : Thread nD τ).loc main_arg9)) Facts₀.shapeCasts_S512_S512x1
    ∧ V m c main_v15 = shapeCast S1024x1 (m ((c : Thread nD τ).loc main_arg12)) Facts₀.shapeCasts_S1024_S1024x1
    ∧ V m c main_v16 = shapeCast S1024x1 (m ((c : Thread nD τ).loc main_arg13)) Facts₀.shapeCasts_S1024_S1024x1 := by
  refine ⟨?_, ?_, ?_, ?_, ?_, ?_, ?_, ?_, ?_, ?_, ?_, ?_⟩ <;>
  · unfold V V0 hostOps0
    simp only [List.flatten_cons, List.flatten_nil, List.append_nil]
    after_results
    try rfl

/-! ## The result -/

/-- The result array ends at the last point's block. -/
theorem arrAt_result (c : Dev nD) : (dats m 0 c).arrAt 12 cfg0.N = OUT m c :=
  Pipeline.Dat.arrAt_eq_of_cover (dats m 0 c) 12 (OUT m c)
    (fun t ht => by
      refine funext fun x => ?_
      refine (congrFun (after0_12 m c t) _).trans ?_
      have e : ((cfg0.win 12).blk t).view.read (Elt F) (OUT m c) x = OUT m c x :=
        (View.read_apply _ _).trans (congrArg (OUT m c) (funext fun a => Fin.ext (block_emb 12 t x a)))
      exact e.symm)
    (fun i => ⟨p2, by decide +kernel, by
      have e : ((cfg0.win 12).blk p2).view.emb i = i := funext fun a => Fin.ext (block_emb 12 p2 i a)
      exact e ▸ ((cfg0.win 12).blk p2).view.emb_mem_set i⟩)

theorem tail_v20 (c : Dev nD) : Pipeline.afterTail₀ cfgs (dats m) 0 (V0 m) [hostOps1] c main_v20
    = broadcastInDim S8x3x1 ![] Facts₀.bcast_S_S8x3x1 (constant S_ .f32 0x00000000#32) := by
  unfold Pipeline.afterTail₀ hostOps1
  simp only [List.flatten_cons, List.flatten_nil, List.append_nil]
  after_results

theorem tail_v19 (c : Dev nD) : Pipeline.afterTail₀ cfgs (dats m) 0 (V0 m) [hostOps1] c main_v19
    = shapeCast S8x1024x1 (transpose S8x1024 [1, 0] (OUT m c) Facts₀.transposes_S1024x8_S8x1024_1_0) Facts₀.shapeCasts_S8x1024_S8x1024x1 := by
  have e := (Pipeline.withArrays_arr spec0 launch0.win.arr_inj c (V0 m c) (fun w => (dats m 0 c).arrAt w cfg0.N) 12).trans (arrAt_result m c)
  unfold Pipeline.afterTail₀ hostOps1
  simp only [List.flatten_cons, List.flatten_nil, List.append_nil]
  after_results
  exact congrArg (fun X => shapeCast S8x1024x1 (transpose S8x1024 [1, 0] X Facts₀.transposes_S1024x8_S8x1024_1_0) Facts₀.shapeCasts_S8x1024_S8x1024x1) e

/-- What every run of the kernel's program leaves in its two results. -/
theorem run_results : θ_run defs (onTc (τ := τ) (main (F := F))) ⟨m, fun _ => 0, ρ⟩ (fun r => ∀ c : Dev nD,
    r.2.mem ((c.tc : Thread nD τ).loc main_v20) = broadcastInDim S8x3x1 ![] Facts₀.bcast_S_S8x3x1 (constant S_ .f32 0x00000000#32)
    ∧ r.2.mem ((c.tc : Thread nD τ).loc main_v19)
      = shapeCast S8x1024x1 (transpose S8x1024 [1, 0] (OUT m c) Facts₀.transposes_S1024x8_S8x1024_1_0) Facts₀.shapeCasts_S8x1024_S8x1024x1) :=
  (θ_run defs _ _).mono (fun r h c =>
    ⟨((h c).2 main_v20 (Pipeline.mem_restRefs_of main_v20 rfl (by decide))).trans (tail_v20 m c),
     ((h c).2 main_v19 (Pipeline.mem_restRefs_of main_v19 rfl (by decide))).trans (tail_v19 m c)⟩) (run_main m ρ)

end Cert.KernelIdeal.Hand

end
-- ==== Proof.KernelValue.lean ====
module

public import proofs.«01_k».proof.Proof.Operands
public import proofs.«01_k».proof.Proof.NetReals

@[expose] public section

/-! The kernel's result at one entry, from real arguments. -/

set_option maxRecDepth 16384

noncomputable section

namespace Cert.KernelIdeal.Hand

open Idealize.ShloMosaic Idealize.ShloMosaic.TcCoe Idealize.ShloMosaic.ValueIdx
open Idealize.SL Idealize.SL.Sem
open Cert.KernelIdeal.Gen Cert.Network

variable (m : (ℓ : Loc nD τ sig) → Buf (Elt Ideal) ℓ)

/-- The first three columns of the first layer's matrix. -/
def lower (W : Fin 256 → Fin 259 → ℝ) : Fin 256 → Fin 3 → ℝ := fun o a => W o ⟨a.val, by omega⟩

/-- Its other columns. -/
def upper (W : Fin 256 → Fin 259 → ℝ) : Fin 256 → Fin 256 → ℝ := fun o k => W o ⟨3 + k.val, by omega⟩

/-- The first argument tiled: tile `t` holds 512 points of one batch. -/
theorem tiled_apply {α : Type} (x : S8x3x2048.Idx → α) (t : Fin 32) (a : Fin 3) (l : Fin 512) :
    transpose S32x3x512 [1, 0, 2] (shapeCast S3x32x512 (transpose S3x8x2048 [1, 0, 2] x Facts₀.transposes_S8x3x2048_S3x8x2048_1_0_2)
      Facts₀.shapeCasts_S3x8x2048_S3x32x512) Facts₀.transposes_S3x32x512_S32x3x512_1_0_2 (ix3 t a l) = x (ix3 (bat t) a (spot t l)) := by
  refine (transpose_apply _ _ _ (ix3 t a l) (ix3 a t l) (fun b => match b with | ⟨0, _⟩ => rfl | ⟨1, _⟩ => rfl | ⟨2, _⟩ => rfl)).trans ?_
  refine (shapeCast_apply _ _ (ix3 a t l) (ix3 a (bat t) (spot t l)) ?_).trans ?_
  · rw [Shape.rowMajor_val_three, Shape.rowMajor_val_three]
    show (a.val * 8 + t.val / 4) * 2048 + (512 * (t.val % 4) + l.val) = (a.val * 32 + t.val) * 512 + l.val
    omega
  · exact transpose_apply _ _ _ (ix3 a (bat t) (spot t l)) (ix3 (bat t) a (spot t l)) (fun b => match b with | ⟨0, _⟩ => rfl | ⟨1, _⟩ => rfl | ⟨2, _⟩ => rfl)

variable {p : Act 3} {q : Act 256} {W : Fin 256 → Fin 259 → ℝ} {w1 : Fin 512 → Fin 256 → ℝ}
  {w2 : Fin 1024 → Fin 512 → ℝ} {g0 b0 : Fin 256 → ℝ} {g1 b1 : Fin 512 → ℝ} {g2 : Fin 1024 → ℝ}

theorem out_apply (c : Dev nD)
    (h0 : ∀ b a n, (m ((c : Thread nD τ).loc main_arg0) (ix3 b a n) : EReal) = ((p b a n : ℝ) : EReal))
    (h1 : ∀ b k n, (m ((c : Thread nD τ).loc main_arg1) (ix3 b k n) : EReal) = ((q b k n : ℝ) : EReal))
    (h2 : ∀ o k, (m ((c : Thread nD τ).loc main_arg2) (ix2 o k) : EReal) = ((W o k : ℝ) : EReal))
    (h4 : ∀ o, (m ((c : Thread nD τ).loc main_arg4) (ix1 o) : EReal) = ((g0 o : ℝ) : EReal))
    (h5 : ∀ o, (m ((c : Thread nD τ).loc main_arg5) (ix1 o) : EReal) = ((b0 o : ℝ) : EReal))
    (h6 : ∀ o k, (m ((c : Thread nD τ).loc main_arg6) (ix2 o k) : EReal) = ((w1 o k : ℝ) : EReal))
    (h8 : ∀ o, (m ((c : Thread nD τ).loc main_arg8) (ix1 o) : EReal) = ((g1 o : ℝ) : EReal))
    (h9 : ∀ o, (m ((c : Thread nD τ).loc main_arg9) (ix1 o) : EReal) = ((b1 o : ℝ) : EReal))
    (h10 : ∀ o k, (m ((c : Thread nD τ).loc main_arg10) (ix2 o k) : EReal) = ((w2 o k : ℝ) : EReal))
    (h12 : ∀ o, (m ((c : Thread nD τ).loc main_arg12) (ix1 o) : EReal) = ((g2 o : ℝ) : EReal))
    {be : Fin 1024 → EReal} (h13 : ∀ o, (m ((c : Thread nD τ).loc main_arg13) (ix1 o) : EReal) = be o)
    (o : Fin 1024) (b : Fin 8) (y0 : Act 256) (e0 : y0 = pre0 p q (lower W) (upper W)) (y1 : Act 512)
    (e1 : y1 = mix w1 (layer eps g0 b0 y0)) (y2 : Act 1024) (e2 : y2 = mix w2 (layer eps g1 b1 y1)) :
    ∃ n0, (∀ n, y2 b o n ≤ y2 b o n0) ∧ (OUT m c (ix2 o b) : EReal)
      = max (((y2 b o n0 * factor eps g2 y2 o : ℝ) : EReal) + (be o - ((mean y2 o * factor eps g2 y2 o : ℝ) : EReal))) 0 := by
  obtain ⟨v3, v4, v6, v8, v9, v10, v11, v12, v13, v14, v15, v16⟩ := prefixes m c
  obtain ⟨n0, hn, e⟩ := net_apply (x1 := X0 m c) (x2 := X1 m c) (x3 := X2 m c) (x4 := X3 m c) (x5 := X4 m c) (x6 := X5 m c)
    (x7 := X6 m c) (x8 := X7 m c) (x9 := X8 m c) (x10 := X9 m c) (x11 := X10 m c) (x12 := X11 m c)
    (p := p) (q := q) (u := lower W) (w := upper W) (w1 := w1) (w2 := w2) (g0 := g0) (b0 := b0) (g1 := g1) (b1 := b1) (g2 := g2)
    (fun t a l => (congrFun ((X0_eq m c).trans v3) _).trans ((tiled_apply _ t a l).trans (h0 _ _ _)))
    (fun b k n => (congrFun ((X1_eq m c).trans v4) _).trans (h1 b k n))
    (fun o a => (congrFun ((X2_eq m c).trans v6) _).trans
      ((slice2_axis1_apply 0 (m ((c : Thread nD τ).loc main_arg2)) Facts₀.slices_S256x259_S256x3_0_0 o a ⟨a.val, by omega⟩ (by simp)).trans (h2 o _)))
    (fun o k => (congrFun ((X3_eq m c).trans v8) _).trans
      ((slice2_axis1_apply 3 (m ((c : Thread nD τ).loc main_arg2)) Facts₀.slices_S256x259_S256x256_0_3 o k ⟨3 + k.val, by omega⟩ rfl).trans (h2 o _)))
    (fun o k => (congrFun ((X4_eq m c).trans v9) _).trans (h6 o k))
    (fun o k => (congrFun ((X5_eq m c).trans v10) _).trans (h10 o k))
    (fun o => (congrFun ((X6_eq m c).trans v11) _).trans ((shapeCast_a_a1_apply _ _ o 0).trans (h4 o)))
    (fun o => (congrFun ((X7_eq m c).trans v12) _).trans ((shapeCast_a_a1_apply _ _ o 0).trans (h5 o)))
    (fun o => (congrFun ((X8_eq m c).trans v13) _).trans ((shapeCast_a_a1_apply _ _ o 0).trans (h8 o)))
    (fun o => (congrFun ((X9_eq m c).trans v14) _).trans ((shapeCast_a_a1_apply _ _ o 0).trans (h9 o)))
    (fun o => (congrFun ((X10_eq m c).trans v15) _).trans ((shapeCast_a_a1_apply _ _ o 0).trans (h12 o)))
    o b y0 e0 y1 e1 y2 e2
  have e13 : (X11 m c (ix2 o 0) : EReal) = be o :=
    (congrFun ((X11_eq m c).trans v16) _).trans ((shapeCast_a_a1_apply _ _ o 0).trans (h13 o))
  refine ⟨n0, hn, e.trans ?_⟩
  rw [e13]

/-- The result's entry is the kernel's, its two axes exchanged. -/
theorem reordered_apply {α : Type} (x : S1024x8.Idx → α) (b : Fin 8) (o : Fin 1024) :
    shapeCast S8x1024x1 (transpose S8x1024 [1, 0] x Facts₀.transposes_S1024x8_S8x1024_1_0) Facts₀.shapeCasts_S8x1024_S8x1024x1 (ix3 b o 0)
      = x (ix2 o b) := by
  refine (shapeCast_apply _ _ (ix3 b o 0) (ix2 b o) ?_).trans ?_
  · rw [Shape.rowMajor_val_two, Shape.rowMajor_val_three]
    show b.val * 1024 + o.val = (b.val * 1024 + o.val) * 1 + 0
    omega
  · exact transpose_ix2_apply _ _ _ _

end Cert.KernelIdeal.Hand

end
-- ==== Proof.RefNet.lean ====
module

public import proofs.«01_k».proof.Proof.RefReals
public import proofs.«01_k».proof.Proof.KernelValue
public import proofs.«01_k».proof.Proof.Gen.ReferenceIdeal.Run
import Mathlib.Tactic.Positivity

@[expose] public section

/-! The reference's second result at one entry, from real arguments. -/

set_option maxRecDepth 16384

noncomputable section

namespace Cert.ReferenceIdeal.Hand

open Idealize.ShloMosaic Idealize.ShloMosaic.TcCoe Idealize.ShloMosaic.ValueIdx Idealize.ShloMosaic.StableHlo
open Cert.ReferenceIdeal.Gen Cert.ReferenceIdeal.Value Cert.Network
open Cert.KernelIdeal.Hand (eps eps_pos pre0 lower upper)
open scoped BigOperators

theorem shapes256 : Shapes 256 :=
  ⟨bcast_S256_S1x256x1_1, bcast_S1x256x1_S8x256x2048_0_1_2, bcast_S_S1x256x1, bcast_S_S8x256x2048, reducesTo_S8x256x2048_S256_d0_2, h_S_⟩
theorem shapes512 : Shapes 512 :=
  ⟨bcast_S512_S1x512x1_1, bcast_S1x512x1_S8x512x2048_0_1_2, bcast_S_S1x512x1, bcast_S_S8x512x2048, reducesTo_S8x512x2048_S512_d0_2, h_S_⟩
theorem shapes1024 : Shapes 1024 :=
  ⟨bcast_S1024_S1x1024x1_1, bcast_S1x1024x1_S8x1024x2048_0_1_2, bcast_S_S1x1024x1, bcast_S_S8x1024x2048, reducesTo_S8x1024x2048_S1024_d0_2, h_S_⟩

/-! ## The first layer's input -/

/-- The coordinates and the features, one after the other. -/
def joined (p : Act 3) (q : Act 256) : Act 259 := fun b k n =>
  if h : k.val < 3 then p b ⟨k.val, h⟩ n else q b ⟨k.val - 3, by omega⟩ n

theorem joined_holds {x : FVec Ideal (T3 3) .f32} {y : FVec Ideal (T3 256) .f32} {p : Act 3} {q : Act 256} (hx : Holds3 x p) (hy : Holds3 y q)
    (h : Shape.Concatenates [T3 3, T3 256] (T3 259) 1) :
    Holds3 (concatenate (T3 259) 1 [⟨T3 3, x⟩, ⟨T3 256, y⟩] h) (joined p q) := fun b k n => by
  unfold joined
  split
  · next hk =>
    refine Eq.trans (concatenate_pair_apply_left (t := T3 259) 1 x y h (ix3 b k n) rfl (ix3 b ⟨k.val, hk⟩ n) ?_) (hx _ _ _)
    intro a
    match a with
    | ⟨0, _⟩ => rfl
    | ⟨1, _⟩ => rfl
    | ⟨2, _⟩ => rfl
  · next hk =>
    refine Eq.trans (concatenate_pair_apply_right (t := T3 259) 1 x y h (ix3 b k n) rfl rfl (ix3 b ⟨k.val - 3, by omega⟩ n) ?_ ?_) (hy _ _ _)
    · intro a ha
      match a with
      | ⟨0, _⟩ => rfl
      | ⟨1, _⟩ => exact absurd rfl ha
      | ⟨2, _⟩ => rfl
    · show k.val - 3 + 3 = k.val
      omega

theorem mix_joined (W : Fin 256 → Fin 259 → ℝ) (p : Act 3) (q : Act 256) : mix W (joined p q) = pre0 p q (lower W) (upper W) := by
  funext b o n
  unfold mix pre0
  refine (Fin.sum_univ_add (a := 3) (b := 256) fun k : Fin 259 => W o k * joined p q b k n).trans ((add_comm _ _).trans ?_)
  refine congrArg₂ (fun a b : ℝ => a + b) (Finset.sum_congr rfl fun k _ => ?_) (Finset.sum_congr rfl fun k _ => ?_)
  · refine congrArg₂ (fun a b : ℝ => a * b) rfl ?_
    unfold joined
    rw [dif_neg (by show ¬ 3 + k.val < 3; omega)]
    exact congrArg (fun i => q b i n) (Fin.ext (by show 3 + k.val - 3 = k.val; omega))
  · refine congrArg₂ (fun a b : ℝ => a * b) rfl ?_
    unfold joined
    rw [dif_pos (show (Fin.castAdd 256 k).val < 3 from k.isLt)]
    rfl

/-! ## The layers -/

variable (V : Valuation τ sig (Elt Ideal))

theorem first_eq : res_main_v5 V = convolve shapes256 dot_S8x259x2048_S256x259_S8x2048x256_1_1_02_0_n_n_wf
    transposes_S8x2048x256_S8x256x2048_0_2_1 (concatenate S8x259x2048 1 [⟨S8x3x2048, V (Proc.devRef .tc main_arg0)⟩,
      ⟨S8x256x2048, V (Proc.devRef .tc main_arg1)⟩] concatenates_S8x3x2048_S8x256x2048_S8x259x2048_d1)
    (V (Proc.devRef .tc main_arg2)) (V (Proc.devRef .tc main_arg3)) := rfl

theorem second_eq : res_main_v36 V = convolve shapes512 dot_S8x256x2048_S512x256_S8x2048x512_1_1_02_0_n_n_wf
    transposes_S8x2048x512_S8x512x2048_0_2_1
    (normalise shapes256 (res_main_v5 V) (V (Proc.devRef .tc main_arg4)) (V (Proc.devRef .tc main_arg5)))
    (V (Proc.devRef .tc main_arg6)) (V (Proc.devRef .tc main_arg7)) := rfl

theorem third_eq : res_main_v67 V = convolve shapes1024 dot_S8x512x2048_S1024x512_S8x2048x1024_1_1_02_0_n_n_wf
    transposes_S8x2048x1024_S8x1024x2048_0_2_1
    (normalise shapes512 (res_main_v36 V) (V (Proc.devRef .tc main_arg8)) (V (Proc.devRef .tc main_arg9)))
    (V (Proc.devRef .tc main_arg10)) (V (Proc.devRef .tc main_arg11)) := rfl

/-- The second result. -/
def pooled : FVec Ideal S8x1024x1 .f32 :=
  broadcastInDim S8x1024x1 ![0, 1] bcast_S8x1024_S8x1024x1_0_1 (Host.reduce FloatOps.maximumf
    (normalise shapes1024 (res_main_v67 V) (V (Proc.devRef .tc main_arg12)) (V (Proc.devRef .tc main_arg13)))
    (constant S_ .f32 0xFF800000#32) reducesTo_S8x1024x2048_S8x1024_d2 h_S_)

theorem reduces_last : (T3 1024).Reduces [2] ⟨2, ![8, 1024]⟩ := by decide

theorem pooled_apply {p : Act 3} {q : Act 256} {W : Fin 256 → Fin 259 → ℝ} {s0 g0 b0 : Fin 256 → ℝ} {w1 : Fin 512 → Fin 256 → ℝ}
    {s1 g1 b1 : Fin 512 → ℝ} {w2 : Fin 1024 → Fin 512 → ℝ} {s2 g2 : Fin 1024 → ℝ} {be : Fin 1024 → EReal}
    (h0 : ∀ b a n, (V (Proc.devRef .tc main_arg0) (ix3 b a n) : EReal) = ((p b a n : ℝ) : EReal))
    (h1 : ∀ b k n, (V (Proc.devRef .tc main_arg1) (ix3 b k n) : EReal) = ((q b k n : ℝ) : EReal))
    (h2 : ∀ o k, (V (Proc.devRef .tc main_arg2) (ix2 o k) : EReal) = ((W o k : ℝ) : EReal))
    (h3 : ∀ o, (V (Proc.devRef .tc main_arg3) (ix1 o) : EReal) = ((s0 o : ℝ) : EReal))
    (h4 : ∀ o, (V (Proc.devRef .tc main_arg4) (ix1 o) : EReal) = ((g0 o : ℝ) : EReal))
    (h5 : ∀ o, (V (Proc.devRef .tc main_arg5) (ix1 o) : EReal) = ((b0 o : ℝ) : EReal))
    (h6 : ∀ o k, (V (Proc.devRef .tc main_arg6) (ix2 o k) : EReal) = ((w1 o k : ℝ) : EReal))
    (h7 : ∀ o, (V (Proc.devRef .tc main_arg7) (ix1 o) : EReal) = ((s1 o : ℝ) : EReal))
    (h8 : ∀ o, (V (Proc.devRef .tc main_arg8) (ix1 o) : EReal) = ((g1 o : ℝ) : EReal))
    (h9 : ∀ o, (V (Proc.devRef .tc main_arg9) (ix1 o) : EReal) = ((b1 o : ℝ) : EReal))
    (h10 : ∀ o k, (V (Proc.devRef .tc main_arg10) (ix2 o k) : EReal) = ((w2 o k : ℝ) : EReal))
    (h11 : ∀ o, (V (Proc.devRef .tc main_arg11) (ix1 o) : EReal) = ((s2 o : ℝ) : EReal))
    (h12 : ∀ o, (V (Proc.devRef .tc main_arg12) (ix1 o) : EReal) = ((g2 o : ℝ) : EReal))
    (h13 : ∀ o, (V (Proc.devRef .tc main_arg13) (ix1 o) : EReal) = be o)
    (b : Fin 8) (o : Fin 1024) (rise : 0 ≤ g2 o) (y0 : Act 256) (e0 : y0 = pre0 p q (lower W) (upper W)) (y1 : Act 512)
    (e1 : y1 = mix w1 (layer eps g0 b0 y0)) (y2 : Act 1024) (e2 : y2 = mix w2 (layer eps g1 b1 y1)) (n0 : Fin 2048)
    (hn : ∀ n, y2 b o n ≤ y2 b o n0) :
    (pooled V (ix3 b o 0) : EReal)
      = max (((y2 b o n0 * factor eps g2 y2 o : ℝ) : EReal) + (be o - ((mean y2 o * factor eps g2 y2 o : ℝ) : EReal))) 0 := by
  have a0 : Holds3 (res_main_v5 V) (biased y0 s0) := by
    rw [e0, ← mix_joined]
    exact convolve_holds shapes256 _ _ (joined_holds h0 h1 _) h2 h3
  have a1 : Holds3 (res_main_v36 V) (biased y1 s1) := by
    rw [e1]
    exact convolve_holds shapes512 _ _ (normalise_holds shapes256 a0 h4 h5) h6 h7
  have a2 : Holds3 (res_main_v67 V) (biased y2 s2) := by
    rw [e2]
    exact convolve_holds shapes1024 _ _ (normalise_holds shapes512 a1 h8 h9) h10 h11
  have a3 := normalise_apply shapes1024 a2 h12 h13 b o
  have hf : 0 ≤ factor eps g2 y2 o := mul_nonneg rise (inv_nonneg.2 (Real.sqrt_nonneg _))
  refine Eq.trans ?_ (a3 n0)
  unfold pooled
  refine (broadcastInDim_apply _ _ _ _ (ix2 b o) fun a => match a with | ⟨0, _⟩ => rfl | ⟨1, _⟩ => rfl).trans ?_
  refine greatest_apply _ reduces_last _ b o n0 fun n => ?_
  rw [a3 n, a3 n0]
  exact max_le_max (add_le_add (EReal.coe_le_coe_iff.2 (mul_le_mul_of_nonneg_right (hn n) hf)) le_rfl) le_rfl

end Cert.ReferenceIdeal.Hand

end
-- ==== Proof.Finite.lean ====
module

public import proofs.«01_k».proof.Pre_finite_and_rising
public import Idealize.ShloMosaic.Lib.ReduceAll
public import Idealize.ShloMosaic.Lib.IdealHost
public import Idealize.ShloMosaic.Lib.ValueIdx
public import Idealize.ShloMosaic.PureOps.Ideal

@[expose] public section

/-! What the precondition says: every input but the last shift is real at every entry, and the last scale is not negative. -/

noncomputable section

namespace Cert.Pre_finite_and_rising.Hand

open Idealize.ShloMosaic Idealize.ShloMosaic.ValueIdx Cert.Pre_finite_and_rising

theorem facts : Facts where
  bcast_S_S1024 := by decide
  reducesTo_S1024_S_d0 := by decide
  h_S_ := by decide
  bcast_S_S8x3x2048 := by decide
  reducesTo_S8x3x2048_S_d0_1_2 := by decide
  bcast_S_S8x256x2048 := by decide
  reducesTo_S8x256x2048_S_d0_1_2 := by decide
  bcast_S_S256x259 := by decide
  reducesTo_S256x259_S_d0_1 := by decide
  bcast_S_S256 := by decide
  reducesTo_S256_S_d0 := by decide
  bcast_S_S512x256 := by decide
  reducesTo_S512x256_S_d0_1 := by decide
  bcast_S_S512 := by decide
  reducesTo_S512_S_d0 := by decide
  bcast_S_S1024x512 := by decide
  reducesTo_S1024x512_S_d0_1 := by decide

theorem word_infinite : Ideal.ofBits .f32 0x7F800000#32 = ⊤ := by
  simp [Ideal.ofBits, Ideal.ieee]

/-- The magnitude is below the infinite word at every entry, as one bit. -/
abbrev AllReal {T : Shape} {axes : List (Fin T.rank)} (x : FVec Ideal T .f32) (hb : S_.BroadcastsInDim T (![] : Fin 0 → Fin T.rank))
    (hr : T.ReducesTo axes S_) (hp : 0 < S_.numel) : IVec S_ 1 :=
  Host.reduce IntOp.andi (cmpf .olt (Host.absf x) (broadcastInDim T ![] hb (constant S_ .f32 0x7F800000#32))) (constantI S_ 1 1#1) hr hp

instance : Subsingleton S_.Idx := ⟨fun a b => funext fun i => i.elim0⟩

theorem real_of_abs (x : EReal) (h : max x (-x) < ⊤) : x = ((x.toReal : ℝ) : EReal) := by
  refine (EReal.coe_toReal ?_ ?_).symm
  · rintro rfl; simp at h
  · rintro rfl; simp at h

theorem real_of_all {T : Shape} {axes : List (Fin T.rank)} {x : FVec Ideal T .f32} {hb : S_.BroadcastsInDim T (![] : Fin 0 → Fin T.rank)}
    {hr : T.ReducesTo axes S_} {hp : 0 < S_.numel} (h : AllReal x hb hr hp ix0 = 1#1) (i : T.Idx) :
    (x i : EReal) = (((x i : EReal).toReal : ℝ) : EReal) := by
  have e := Host.reduce_andi_all _ _ hr hp ix0 h i
  refine real_of_abs _ ?_
  have e' : BitVec.ofBool (decide (max (x i : EReal) (-(x i : EReal)) < broadcastInDim T ![] hb (constant (F := Ideal) S_ .f32 0x7F800000#32) i)) = 1#1 := e
  rw [broadcastInDim_scalar_apply] at e'
  have e2 : BitVec.ofBool (decide (max (x i : EReal) (-(x i : EReal)) < Ideal.ofBits .f32 0x7F800000#32)) = 1#1 := e'
  rw [word_infinite] at e2
  by_contra hc
  rw [decide_eq_false hc] at e2
  exact absurd e2 (by decide)

theorem rising_of_all {x : FVec Ideal S1024 .f32} {hb : S_.BroadcastsInDim S1024 (![] : Fin 0 → Fin S1024.rank)}
    {hr : S1024.ReducesTo [0] S_} {hp : 0 < S_.numel}
    (h : Host.reduce IntOp.andi (cmpf .oge x (broadcastInDim S1024 ![] hb (constant S_ .f32 0x00000000#32))) (constantI S_ 1 1#1) hr hp ix0 = 1#1)
    (i : S1024.Idx) : (0 : EReal) ≤ x i := by
  have e := Host.reduce_andi_all _ _ hr hp ix0 h i
  have e' : BitVec.ofBool (decide (broadcastInDim S1024 ![] hb (constant (F := Ideal) S_ .f32 0x00000000#32) i ≤ (x i : EReal))) = 1#1 := e
  rw [broadcastInDim_scalar_apply] at e'
  have e2 : BitVec.ofBool (decide (Ideal.ofBits .f32 0x00000000#32 ≤ (x i : EReal))) = 1#1 := e'
  rw [Ideal.ofBits_zero_f32] at e2
  by_contra hc
  rw [decide_eq_false hc] at e2
  exact absurd e2 (by decide)

theorem both {x y : IVec S_ 1} {i : S_.Idx} (h : andi x y i = 1#1) : x i = 1#1 ∧ y i = 1#1 := IntOp.andi_eq_one.1 h

variable [Facts]
open Facts

/-- What the precondition's being 1 says. -/
theorem decoded {a0 : FVec Ideal S8x3x2048 .f32} {a1 : FVec Ideal S8x256x2048 .f32} {a2 : FVec Ideal S256x259 .f32}
    {a3 a4 a5 : FVec Ideal S256 .f32} {a6 : FVec Ideal S512x256 .f32} {a7 a8 a9 : FVec Ideal S512 .f32} {a10 : FVec Ideal S1024x512 .f32}
    {a11 a12 a13 : FVec Ideal S1024 .f32} (h : fn a0 a1 a2 a3 a4 a5 a6 a7 a8 a9 a10 a11 a12 a13 = fun _ => 1#1) :
    (∀ i, (a0 i : EReal) = (((a0 i : EReal).toReal : ℝ) : EReal)) ∧ (∀ i, (a1 i : EReal) = (((a1 i : EReal).toReal : ℝ) : EReal))
      ∧ (∀ i, (a2 i : EReal) = (((a2 i : EReal).toReal : ℝ) : EReal)) ∧ (∀ i, (a3 i : EReal) = (((a3 i : EReal).toReal : ℝ) : EReal))
      ∧ (∀ i, (a4 i : EReal) = (((a4 i : EReal).toReal : ℝ) : EReal)) ∧ (∀ i, (a5 i : EReal) = (((a5 i : EReal).toReal : ℝ) : EReal))
      ∧ (∀ i, (a6 i : EReal) = (((a6 i : EReal).toReal : ℝ) : EReal)) ∧ (∀ i, (a7 i : EReal) = (((a7 i : EReal).toReal : ℝ) : EReal))
      ∧ (∀ i, (a8 i : EReal) = (((a8 i : EReal).toReal : ℝ) : EReal)) ∧ (∀ i, (a9 i : EReal) = (((a9 i : EReal).toReal : ℝ) : EReal))
      ∧ (∀ i, (a10 i : EReal) = (((a10 i : EReal).toReal : ℝ) : EReal)) ∧ (∀ i, (a11 i : EReal) = (((a11 i : EReal).toReal : ℝ) : EReal))
      ∧ (∀ i, (a12 i : EReal) = (((a12 i : EReal).toReal : ℝ) : EReal)) ∧ (∀ i, (0 : EReal) ≤ a12 i) := by
  have e : andi _ _ ix0 = 1#1 := congrFun h ix0
  obtain ⟨e, r12⟩ := both e
  obtain ⟨e, r11⟩ := both e
  obtain ⟨e, r10⟩ := both e
  obtain ⟨e, r9⟩ := both e
  obtain ⟨e, r8⟩ := both e
  obtain ⟨e, r7⟩ := both e
  obtain ⟨e, r6⟩ := both e
  obtain ⟨e, r5⟩ := both e
  obtain ⟨e, r4⟩ := both e
  obtain ⟨e, r3⟩ := both e
  obtain ⟨e, r2⟩ := both e
  obtain ⟨e, r1⟩ := both e
  obtain ⟨e, r0⟩ := both e
  exact ⟨real_of_all r0, real_of_all r1, real_of_all r2, real_of_all r3, real_of_all r4, real_of_all r5, real_of_all r6, real_of_all r7,
    real_of_all r8, real_of_all r9, real_of_all r10, real_of_all r11, real_of_all r12, rising_of_all e⟩

end Cert.Pre_finite_and_rising.Hand

end
-- ==== Proof.Agree.lean ====
module

public import proofs.«01_k».proof.Defs
public import proofs.«01_k».proof.Proof.RefNet
public import proofs.«01_k».proof.Proof.Finite
public import proofs.«01_k».proof.Proof.Launched
public import Idealize.ShloMosaic.Lib.Claim

@[expose] public section

/-! The kernel and the reference end with the same two results. -/

set_option maxRecDepth 16384

noncomputable section

namespace Cert.Network

open Idealize.ShloMosaic Idealize.ShloMosaic.TcCoe Idealize.ShloMosaic.ValueIdx Idealize.ShloMosaic.StableHlo Idealize.SL.Sem
open Cert.KernelIdeal.Hand (OUT eps pre0 lower upper out_apply reordered_apply run_results)
open Cert.ReferenceIdeal.Hand (pooled pooled_apply)

/-- The kernel's second result. -/
def kernelPooled (m : (ℓ : Loc Cert.KernelIdeal.nD Cert.KernelIdeal.τ Cert.KernelIdeal.sig) → Buf (Elt Ideal) ℓ) (c : Dev Cert.KernelIdeal.nD) :
    FVec Ideal Cert.KernelIdeal.S8x1024x1 .f32 :=
  shapeCast Cert.KernelIdeal.S8x1024x1 (transpose Cert.KernelIdeal.S8x1024 [1, 0] (OUT m c) Cert.KernelIdeal.Facts₀.transposes_S1024x8_S8x1024_1_0)
    Cert.KernelIdeal.Facts₀.shapeCasts_S8x1024_S8x1024x1

variable [Cert.Pre_finite_and_rising.Facts]

theorem pooled_agree (m : (ℓ : Loc Cert.KernelIdeal.nD Cert.KernelIdeal.τ Cert.KernelIdeal.sig) → Buf (Elt Ideal) ℓ)
    (c : Dev Cert.KernelIdeal.nD) (V : Valuation Cert.ReferenceIdeal.τ Cert.ReferenceIdeal.sig (Elt Ideal))
    (pre : Cert.Pre_KernelIdeal_finite_and_rising m)
    (a0 : V (Proc.devRef .tc Cert.ReferenceIdeal.main_arg0) = m ((c.tc : Thread _ _).loc Cert.KernelIdeal.main_arg0))
    (a1 : V (Proc.devRef .tc Cert.ReferenceIdeal.main_arg1) = m ((c.tc : Thread _ _).loc Cert.KernelIdeal.main_arg1))
    (a2 : V (Proc.devRef .tc Cert.ReferenceIdeal.main_arg2) = m ((c.tc : Thread _ _).loc Cert.KernelIdeal.main_arg2))
    (a3 : V (Proc.devRef .tc Cert.ReferenceIdeal.main_arg3) = m ((c.tc : Thread _ _).loc Cert.KernelIdeal.main_arg3))
    (a4 : V (Proc.devRef .tc Cert.ReferenceIdeal.main_arg4) = m ((c.tc : Thread _ _).loc Cert.KernelIdeal.main_arg4))
    (a5 : V (Proc.devRef .tc Cert.ReferenceIdeal.main_arg5) = m ((c.tc : Thread _ _).loc Cert.KernelIdeal.main_arg5))
    (a6 : V (Proc.devRef .tc Cert.ReferenceIdeal.main_arg6) = m ((c.tc : Thread _ _).loc Cert.KernelIdeal.main_arg6))
    (a7 : V (Proc.devRef .tc Cert.ReferenceIdeal.main_arg7) = m ((c.tc : Thread _ _).loc Cert.KernelIdeal.main_arg7))
    (a8 : V (Proc.devRef .tc Cert.ReferenceIdeal.main_arg8) = m ((c.tc : Thread _ _).loc Cert.KernelIdeal.main_arg8))
    (a9 : V (Proc.devRef .tc Cert.ReferenceIdeal.main_arg9) = m ((c.tc : Thread _ _).loc Cert.KernelIdeal.main_arg9))
    (a10 : V (Proc.devRef .tc Cert.ReferenceIdeal.main_arg10) = m ((c.tc : Thread _ _).loc Cert.KernelIdeal.main_arg10))
    (a11 : V (Proc.devRef .tc Cert.ReferenceIdeal.main_arg11) = m ((c.tc : Thread _ _).loc Cert.KernelIdeal.main_arg11))
    (a12 : V (Proc.devRef .tc Cert.ReferenceIdeal.main_arg12) = m ((c.tc : Thread _ _).loc Cert.KernelIdeal.main_arg12))
    (a13 : V (Proc.devRef .tc Cert.ReferenceIdeal.main_arg13) = m ((c.tc : Thread _ _).loc Cert.KernelIdeal.main_arg13)) :
    pooled V = kernelPooled m c := by
  obtain ⟨r0, r1, r2, r3, r4, r5, r6, r7, r8, r9, r10, r11, r12, rise⟩ := Cert.Pre_finite_and_rising.Hand.decoded (pre c)
  funext i
  obtain ⟨b, o, rfl⟩ : ∃ (b : Fin 8) (o : Fin 1024), i = ix3 b o 0 :=
    ⟨i 0, i 1, (eq_ix3 i).trans (congrArg (ix3 (i 0) (i 1)) (Subsingleton.elim (α := Fin 1) (i 2) 0))⟩
  obtain ⟨n0, hn, e⟩ := out_apply m c (fun b a n => r0 (ix3 b a n)) (fun b k n => r1 (ix3 b k n)) (fun o k => r2 (ix2 o k))
    (fun o => r4 (ix1 o)) (fun o => r5 (ix1 o)) (fun o k => r6 (ix2 o k)) (fun o => r8 (ix1 o)) (fun o => r9 (ix1 o))
    (fun o k => r10 (ix2 o k)) (fun o => r12 (ix1 o)) (fun o => rfl) o b _ rfl _ rfl _ rfl
  refine Eq.trans ?_ (((reordered_apply _ b o).trans e).symm)
  refine pooled_apply V (fun b a n => (congrFun a0 _).trans (r0 (ix3 b a n))) (fun b k n => (congrFun a1 _).trans (r1 (ix3 b k n)))
    (fun o k => (congrFun a2 _).trans (r2 (ix2 o k))) (fun o => (congrFun a3 _).trans (r3 (ix1 o))) (fun o => (congrFun a4 _).trans (r4 (ix1 o)))
    (fun o => (congrFun a5 _).trans (r5 (ix1 o))) (fun o k => (congrFun a6 _).trans (r6 (ix2 o k))) (fun o => (congrFun a7 _).trans (r7 (ix1 o)))
    (fun o => (congrFun a8 _).trans (r8 (ix1 o))) (fun o => (congrFun a9 _).trans (r9 (ix1 o))) (fun o k => (congrFun a10 _).trans (r10 (ix2 o k)))
    (fun o => (congrFun a11 _).trans (r11 (ix1 o))) (fun o => (congrFun a12 _).trans (r12 (ix1 o))) (fun o => congrFun a13 _)
    b o ?_ _ rfl _ rfl _ rfl n0 hn
  exact EReal.toReal_nonneg (rise (ix1 o))

theorem algebraic : Cert.algebraic_KernelIdeal_ReferenceIdeal_pre_finite_and_rising := by
  intro m ρ m' ρ' pre args
  refine ⟨fun _ => broadcastInDim Cert.KernelIdeal.S8x3x1 ![] Cert.KernelIdeal.Facts₀.bcast_S_S8x3x1 (constant (F := Ideal) Cert.KernelIdeal.S_ .f32 0x00000000#32),
    fun c => kernelPooled m c, ?_, ?_⟩
  · exact (θ_run Cert.KernelIdeal.defs _ _).mono (fun r h c => ⟨(h.1 c).1, (h.1 c).2, h.2.1 c⟩)
      (θ_run_and (run_results m ρ) (Cert.KernelIdeal.Hand.frame m ρ))
  · refine (θ_run Cert.ReferenceIdeal.defs _ _).mono (fun r h c => ⟨(h c).1, ((h c).2.1).trans ?_, (h c).2.2⟩) (Cert.ReferenceIdeal.Value.run m' ρ')
    obtain ⟨a0, a1, a2, a3, a4, a5, a6, a7, a8, a9, a10, a11, a12, a13⟩ := args c
    exact pooled_agree m c (launchContents m' c) pre a0 a1 a2 a3 a4 a5 a6 a7 a8 a9 a10 a11 a12 a13

end Cert.Network

end
-- ==== Proof.lean ====
/- The claims: the frames of the three programs, that the ideal program is the kernel read over the extended reals, and that
   the kernel's two results are the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launched
public import proofs.«01_k».proof.Proof.Transfer
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem kernelFrame : Cert.quiescent_KernelIdeal := fun m ρ _ => Cert.KernelIdeal.Hand.frame m ρ

theorem referenceFrame : Cert.quiescent_ReferenceIdeal := fun m ρ _ => (θ_run Cert.ReferenceIdeal.defs _ _).mono
  (fun r h => ⟨fun c => (h c).2.2, sem_eq_zero_of_no_sems rfl r.2⟩) (Cert.ReferenceIdeal.Value.run m ρ)

theorem claim : Cert.Claim := ⟨Cert.Kernel.Gen.facts, Cert.KernelIdeal.Gen.facts, Cert.ReferenceIdeal.Gen.facts,
  Cert.Pre_finite_and_rising.Hand.facts,
  fun m ρ _ => Cert.Kernel.Hand.frame m ρ,
  kernelFrame,
  fun m ρ _ => kernelFrame m ρ ⟨⟩,
  referenceFrame,
  fun m ρ _ => referenceFrame m ρ ⟨⟩,
  trivial,
  @Cert.Network.algebraic Cert.Pre_finite_and_rising.Hand.facts⟩

end Cert.Proof

end
